-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x163840 : Shape := ⟨2, ![2, 163840]⟩
abbrev S163840 : Shape := ⟨1, ![163840]⟩
abbrev S2048x512 : Shape := ⟨2, ![2048, 512]⟩
abbrev S8192x512 : Shape := ⟨2, ![8192, 512]⟩
abbrev S512x512 : Shape := ⟨2, ![512, 512]⟩
abbrev S512 : Shape := ⟨1, ![512]⟩
abbrev S1x163840 : Shape := ⟨2, ![1, 163840]⟩
abbrev S10240x512 : Shape := ⟨2, ![10240, 512]⟩
abbrev S163840x1 : Shape := ⟨2, ![163840, 1]⟩
abbrev S_ : Shape := ⟨0, ![]⟩
abbrev S163840x512 : Shape := ⟨2, ![163840, 512]⟩
abbrev S10240x4x128 : Shape := ⟨3, ![10240, 4, 128]⟩
abbrev S4x10240x128 : Shape := ⟨3, ![4, 10240, 128]⟩
abbrev S40960x128 : Shape := ⟨2, ![40960, 128]⟩
abbrev S1x512 : Shape := ⟨2, ![1, 512]⟩
abbrev S4x256x128 : Shape := ⟨3, ![4, 256, 128]⟩
abbrev S256x512 : Shape := ⟨2, ![256, 512]⟩
abbrev S1x256x128 : Shape := ⟨3, ![1, 256, 128]⟩
abbrev S256x128 : Shape := ⟨2, ![256, 128]⟩
abbrev S2048 : Shape := ⟨1, ![2048]⟩
abbrev S2048x1 : Shape := ⟨2, ![2048, 1]⟩
abbrev S8192 : Shape := ⟨1, ![8192]⟩
abbrev S8192x1 : Shape := ⟨2, ![8192, 1]⟩
abbrev S2048x8192 : Shape := ⟨2, ![2048, 8192]⟩
abbrev S256x2048 : Shape := ⟨2, ![256, 2048]⟩
abbrev S2048x32 : Shape := ⟨2, ![2048, 32]⟩
abbrev S64x8192 : Shape := ⟨2, ![64, 8192]⟩
abbrev S64x32 : Shape := ⟨2, ![64, 32]⟩
abbrev S64 : Shape := ⟨1, ![64]⟩
abbrev S64x1 : Shape := ⟨2, ![64, 1]⟩
abbrev S65536 : Shape := ⟨1, ![65536]⟩
abbrev S131072 : Shape := ⟨1, ![131072]⟩

abbrev nBuf : Space → Nat
  | .hbm => 93
  | .vmem => 24
  | .smem => 0
  | _ => 0

abbrev bufTy : (tb : Table) → Fin (tcTables nBuf tb) → BufTy
  | .hbm, ⟨0, _⟩ => ⟨S2x163840, .i32⟩
  | .hbm, ⟨1, _⟩ => ⟨S163840, .f32⟩
  | .hbm, ⟨2, _⟩ => ⟨S2048x512, .f32⟩
  | .hbm, ⟨3, _⟩ => ⟨S8192x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1x163840, .i32⟩
  | .hbm, ⟨9, _⟩ => ⟨S163840, .i32⟩
  | .hbm, ⟨10, _⟩ => ⟨S1x163840, .i32⟩
  | .hbm, ⟨11, _⟩ => ⟨S163840, .i32⟩
  | .hbm, ⟨12, _⟩ => ⟨S10240x512, .f32⟩
  | .hbm, ⟨13, _⟩ => ⟨S163840x1, .f32⟩
  | .hbm, ⟨14, _⟩ => ⟨S_, .i32⟩
  | .hbm, ⟨15, _⟩ => ⟨S163840, .i32⟩
  | .hbm, ⟨16, _⟩ => ⟨S163840, .i1⟩
  | .hbm, ⟨17, _⟩ => ⟨S_, .i32⟩
  | .hbm, ⟨18, _⟩ => ⟨S163840, .i32⟩
  | .hbm, ⟨19, _⟩ => ⟨S163840, .i32⟩
  | .hbm, ⟨20, _⟩ => ⟨S163840, .i32⟩
  | .hbm, ⟨21, _⟩ => ⟨S163840x1, .i32⟩
  | .hbm, ⟨22, _⟩ => ⟨S163840x512, .f32⟩
  | .hbm, ⟨23, _⟩ => ⟨S163840x512, .f32⟩
  | .hbm, ⟨24, _⟩ => ⟨S163840x512, .f32⟩
  | .hbm, ⟨25, _⟩ => ⟨S_, .f32⟩
  | .hbm, ⟨26, _⟩ => ⟨S10240x512, .f32⟩
  | .hbm, ⟨27, _⟩ => ⟨S163840x1, .i32⟩
  | .hbm, ⟨28, _⟩ => ⟨S10240x512, .f32⟩
  | .hbm, ⟨29, _⟩ => ⟨S10240x4x128, .f32⟩
  | .hbm, ⟨30, _⟩ => ⟨S4x10240x128, .f32⟩
  | .hbm, ⟨31, _⟩ => ⟨S40960x128, .f32⟩
  | .hbm, ⟨32, _⟩ => ⟨S4x10240x128, .f32⟩
  | .hbm, ⟨33, _⟩ => ⟨S1x512, .f32⟩
  | .hbm, ⟨34, _⟩ => ⟨S10240x512, .f32⟩
  | .hbm, ⟨35, _⟩ => ⟨S163840x1, .f32⟩
  | .hbm, ⟨36, _⟩ => ⟨S_, .i32⟩
  | .hbm, ⟨37, _⟩ => ⟨S163840, .i32⟩
  | .hbm, ⟨38, _⟩ => ⟨S163840, .i1⟩
  | .hbm, ⟨39, _⟩ => ⟨S_, .i32⟩
  | .hbm, ⟨40, _⟩ => ⟨S163840, .i32⟩
  | .hbm, ⟨41, _⟩ => ⟨S163840, .i32⟩
  | .hbm, ⟨42, _⟩ => ⟨S163840, .i32⟩
  | .hbm, ⟨43, _⟩ => ⟨S163840x1, .i32⟩
  | .hbm, ⟨44, _⟩ => ⟨S163840x512, .f32⟩
  | .hbm, ⟨45, _⟩ => ⟨S163840x512, .f32⟩
  | .hbm, ⟨46, _⟩ => ⟨S163840x512, .f32⟩
  | .hbm, ⟨47, _⟩ => ⟨S_, .f32⟩
  | .hbm, ⟨48, _⟩ => ⟨S10240x512, .f32⟩
  | .hbm, ⟨49, _⟩ => ⟨S163840x1, .i32⟩
  | .hbm, ⟨50, _⟩ => ⟨S10240x512, .f32⟩
  | .hbm, ⟨51, _⟩ => ⟨S10240x4x128, .f32⟩
  | .hbm, ⟨52, _⟩ => ⟨S4x10240x128, .f32⟩
  | .hbm, ⟨53, _⟩ => ⟨S40960x128, .f32⟩
  | .hbm, ⟨54, _⟩ => ⟨S4x10240x128, .f32⟩
  | .hbm, ⟨55, _⟩ => ⟨S1x512, .f32⟩
  | .hbm, ⟨56, _⟩ => ⟨S10240x512, .f32⟩
  | .hbm, ⟨57, _⟩ => ⟨S2048x512, .f32⟩
  | .hbm, ⟨58, _⟩ => ⟨S8192x512, .f32⟩
  | .hbm, ⟨59, _⟩ => ⟨S2048x512, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x512, .f32⟩
  | .hbm, ⟨68, _⟩ => ⟨S2048x512, .f32⟩
  | .hbm, ⟨69, _⟩ => ⟨S8192x512, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x512, .f32⟩
  | .hbm, ⟨78, _⟩ => ⟨S8192x512, .f32⟩
  | .hbm, ⟨79, _⟩ => ⟨S2048x8192, .f32⟩
  | .hbm, ⟨80, _⟩ => ⟨S2048x32, .f32⟩
  | .hbm, ⟨81, _⟩ => ⟨S2048x32, .i32⟩
  | .hbm, ⟨82, _⟩ => ⟨S2048, .i32⟩
  | .hbm, ⟨83, _⟩ => ⟨S2048x32, .i32⟩
  | .hbm, ⟨84, _⟩ => ⟨S65536, .i32⟩
  | .hbm, ⟨85, _⟩ => ⟨S65536, .i32⟩
  | .hbm, ⟨86, _⟩ => ⟨S_, .i32⟩
  | .hbm, ⟨87, _⟩ => ⟨S65536, .i32⟩
  | .hbm, ⟨88, _⟩ => ⟨S65536, .i32⟩
  | .hbm, ⟨89, _⟩ => ⟨S65536, .f32⟩
  | .hbm, ⟨90, _⟩ => ⟨S131072, .i32⟩
  | .hbm, ⟨91, _⟩ => ⟨S131072, .i32⟩
  | .hbm, ⟨92, _⟩ => ⟨S131072, .f32⟩
  | .local _ .vmem, ⟨0, _⟩ => ⟨S4x256x128, .f32⟩
  | .local _ .vmem, ⟨1, _⟩ => ⟨S4x256x128, .f32⟩
  | .local _ .vmem, ⟨2, _⟩ => ⟨S512x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | .local _ .vmem, ⟨6, _⟩ => ⟨S4x256x128, .f32⟩
  | .local _ .vmem, ⟨7, _⟩ => ⟨S4x256x128, .f32⟩
  | .local _ .vmem, ⟨8, _⟩ => ⟨S512x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S2048x512, .f32⟩
  | .local _ .vmem, ⟨15, _⟩ => ⟨S2048x512, .f32⟩
  | .local _ .vmem, ⟨16, _⟩ => ⟨S256x2048, .f32⟩
  | .local _ .vmem, ⟨17, _⟩ => ⟨S256x2048, .f32⟩
  | .local _ .vmem, ⟨18, _⟩ => ⟨S64x8192, .f32⟩
  | .local _ .vmem, ⟨19, _⟩ => ⟨S64x8192, .f32⟩
  | .local _ .vmem, ⟨20, _⟩ => ⟨S64x32, .f32⟩
  | .local _ .vmem, ⟨21, _⟩ => ⟨S64x32, .f32⟩
  | .local _ .vmem, ⟨22, _⟩ => ⟨S64x32, .i32⟩
  | .local _ .vmem, ⟨23, _⟩ => ⟨S64x32, .i32⟩
  | _, _ => ⟨S2x163840, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_v0 : Ref sig .tc := ⟨.hbm, 59, rfl⟩
abbrev main_call0_cst : Ref sig .tc := ⟨.hbm, 60, rfl⟩
abbrev main_call0_v1 : Ref sig .tc := ⟨.hbm, 61, rfl⟩
abbrev main_call0_v2 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_v0 : Ref sig .tc := ⟨.hbm, 69, rfl⟩
abbrev main_call1_cst : Ref sig .tc := ⟨.hbm, 70, rfl⟩
abbrev main_call1_v1 : Ref sig .tc := ⟨.hbm, 71, rfl⟩
abbrev main_call1_v2 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56_0 : Ref sig .tc := ⟨.hbm, 80, rfl⟩
abbrev main_v56_1 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x32 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== ReferenceIdeal.lean ====
abbrev S2x163840 : Shape := ⟨2, ![2, 163840]⟩
abbrev S163840 : Shape := ⟨1, ![163840]⟩
abbrev S2048x512 : Shape := ⟨2, ![2048, 512]⟩
abbrev S8192x512 : Shape := ⟨2, ![8192, 512]⟩
abbrev S512x512 : Shape := ⟨2, ![512, 512]⟩
abbrev S512 : Shape := ⟨1, ![512]⟩
abbrev S10240x512 : Shape := ⟨2, ![10240, 512]⟩
abbrev S1x163840 : Shape := ⟨2, ![1, 163840]⟩
abbrev S163840x1 : Shape := ⟨2, ![163840, 1]⟩
abbrev S_ : Shape := ⟨0, ![]⟩
abbrev S163840x512 : Shape := ⟨2, ![163840, 512]⟩
abbrev S1x512 : Shape := ⟨2, ![1, 512]⟩
abbrev S2048 : Shape := ⟨1, ![2048]⟩
abbrev S2048x1 : Shape := ⟨2, ![2048, 1]⟩
abbrev S8192 : Shape := ⟨1, ![8192]⟩
abbrev S8192x1 : Shape := ⟨2, ![8192, 1]⟩
abbrev S1024x512 : Shape := ⟨2, ![1024, 512]⟩
abbrev S512x8192 : Shape := ⟨2, ![512, 8192]⟩
abbrev S1024x8192 : Shape := ⟨2, ![1024, 8192]⟩
abbrev S1024x32 : Shape := ⟨2, ![1024, 32]⟩
abbrev S1024 : Shape := ⟨1, ![1024]⟩
abbrev S32768 : Shape := ⟨1, ![32768]⟩
abbrev S65536 : Shape := ⟨1, ![65536]⟩
abbrev S131072 : Shape := ⟨1, ![131072]⟩

abbrev nBuf : Space → Nat
  | .hbm => 112
  | .vmem => 0
  | .smem => 0
  | _ => 0

abbrev bufTy : (tb : Table) → Fin (tcTables nBuf tb) → BufTy
  | .hbm, ⟨0, _⟩ => ⟨S2x163840, .i32⟩
  | .hbm, ⟨1, _⟩ => ⟨S163840, .f32⟩
  | .hbm, ⟨2, _⟩ => ⟨S2048x512, .f32⟩
  | .hbm, ⟨3, _⟩ => ⟨S8192x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S10240x512, .f32⟩
  | .hbm, ⟨9, _⟩ => ⟨S1x163840, .i32⟩
  | .hbm, ⟨10, _⟩ => ⟨S163840, .i32⟩
  | .hbm, ⟨11, _⟩ => ⟨S1x163840, .i32⟩
  | .hbm, ⟨12, _⟩ => ⟨S163840, .i32⟩
  | .hbm, ⟨13, _⟩ => ⟨S163840x1, .f32⟩
  | .hbm, ⟨14, _⟩ => ⟨S_, .i32⟩
  | .hbm, ⟨15, _⟩ => ⟨S163840, .i32⟩
  | .hbm, ⟨16, _⟩ => ⟨S163840, .i1⟩
  | .hbm, ⟨17, _⟩ => ⟨S_, .i32⟩
  | .hbm, ⟨18, _⟩ => ⟨S163840, .i32⟩
  | .hbm, ⟨19, _⟩ => ⟨S163840, .i32⟩
  | .hbm, ⟨20, _⟩ => ⟨S163840, .i32⟩
  | .hbm, ⟨21, _⟩ => ⟨S163840x1, .i32⟩
  | .hbm, ⟨22, _⟩ => ⟨S163840x512, .f32⟩
  | .hbm, ⟨23, _⟩ => ⟨S163840x512, .f32⟩
  | .hbm, ⟨24, _⟩ => ⟨S163840x512, .f32⟩
  | .hbm, ⟨25, _⟩ => ⟨S_, .f32⟩
  | .hbm, ⟨26, _⟩ => ⟨S10240x512, .f32⟩
  | .hbm, ⟨27, _⟩ => ⟨S163840x1, .i32⟩
  | .hbm, ⟨28, _⟩ => ⟨S10240x512, .f32⟩
  | .hbm, ⟨29, _⟩ => ⟨S512x512, .f32⟩
  | .hbm, ⟨30, _⟩ => ⟨S10240x512, .f32⟩
  | .hbm, ⟨31, _⟩ => ⟨S1x512, .f32⟩
  | .hbm, ⟨32, _⟩ => ⟨S10240x512, .f32⟩
  | .hbm, ⟨33, _⟩ => ⟨S10240x512, .f32⟩
  | .hbm, ⟨34, _⟩ => ⟨S_, .f32⟩
  | .hbm, ⟨35, _⟩ => ⟨S10240x512, .f32⟩
  | .hbm, ⟨36, _⟩ => ⟨S10240x512, .f32⟩
  | .hbm, ⟨37, _⟩ => ⟨S163840x1, .f32⟩
  | .hbm, ⟨38, _⟩ => ⟨S_, .i32⟩
  | .hbm, ⟨39, _⟩ => ⟨S163840, .i32⟩
  | .hbm, ⟨40, _⟩ => ⟨S163840, .i1⟩
  | .hbm, ⟨41, _⟩ => ⟨S_, .i32⟩
  | .hbm, ⟨42, _⟩ => ⟨S163840, .i32⟩
  | .hbm, ⟨43, _⟩ => ⟨S163840, .i32⟩
  | .hbm, ⟨44, _⟩ => ⟨S163840, .i32⟩
  | .hbm, ⟨45, _⟩ => ⟨S163840x1, .i32⟩
  | .hbm, ⟨46, _⟩ => ⟨S163840x512, .f32⟩
  | .hbm, ⟨47, _⟩ => ⟨S163840x512, .f32⟩
  | .hbm, ⟨48, _⟩ => ⟨S163840x512, .f32⟩
  | .hbm, ⟨49, _⟩ => ⟨S_, .f32⟩
  | .hbm, ⟨50, _⟩ => ⟨S10240x512, .f32⟩
  | .hbm, ⟨51, _⟩ => ⟨S163840x1, .i32⟩
  | .hbm, ⟨52, _⟩ => ⟨S10240x512, .f32⟩
  | .hbm, ⟨53, _⟩ => ⟨S512x512, .f32⟩
  | .hbm, ⟨54, _⟩ => ⟨S10240x512, .f32⟩
  | .hbm, ⟨55, _⟩ => ⟨S1x512, .f32⟩
  | .hbm, ⟨56, _⟩ => ⟨S10240x512, .f32⟩
  | .hbm, ⟨57, _⟩ => ⟨S10240x512, .f32⟩
  | .hbm, ⟨58, _⟩ => ⟨S2048x512, .f32⟩
  | .hbm, ⟨59, _⟩ => ⟨S8192x512, .f32⟩
  | .hbm, ⟨60, _⟩ => ⟨S2048x512, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S2048x512, .f32⟩
  | .hbm, ⟨69, _⟩ => ⟨S2048x512, .f32⟩
  | .hbm, ⟨70, _⟩ => ⟨S8192x512, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x512, .f32⟩
  | .hbm, ⟨79, _⟩ => ⟨S8192x512, .f32⟩
  | .hbm, ⟨80, _⟩ => ⟨S1024x512, .f32⟩
  | .hbm, ⟨81, _⟩ => ⟨S512x8192, .f32⟩
  | .hbm, ⟨82, _⟩ => ⟨S1024x8192, .f32⟩
  | .hbm, ⟨83, _⟩ => ⟨S1024x32, .f32⟩
  | .hbm, ⟨84, _⟩ => ⟨S1024x32, .i32⟩
  | .hbm, ⟨85, _⟩ => ⟨S1024, .i32⟩
  | .hbm, ⟨86, _⟩ => ⟨S1024x32, .i32⟩
  | .hbm, ⟨87, _⟩ => ⟨S32768, .i32⟩
  | .hbm, ⟨88, _⟩ => ⟨S32768, .i32⟩
  | .hbm, ⟨89, _⟩ => ⟨S32768, .f32⟩
  | .hbm, ⟨90, _⟩ => ⟨S1024x512, .f32⟩
  | .hbm, ⟨91, _⟩ => ⟨S512x8192, .f32⟩
  | .hbm, ⟨92, _⟩ => ⟨S1024x8192, .f32⟩
  | .hbm, ⟨93, _⟩ => ⟨S1024x32, .f32⟩
  | .hbm, ⟨94, _⟩ => ⟨S1024x32, .i32⟩
  | .hbm, ⟨95, _⟩ => ⟨S1024, .i32⟩
  | .hbm, ⟨96, _⟩ => ⟨S_, .i32⟩
  | .hbm, ⟨97, _⟩ => ⟨S1024, .i32⟩
  | .hbm, ⟨98, _⟩ => ⟨S1024, .i32⟩
  | .hbm, ⟨99, _⟩ => ⟨S1024x32, .i32⟩
  | .hbm, ⟨100, _⟩ => ⟨S32768, .i32⟩
  | .hbm, ⟨101, _⟩ => ⟨S32768, .i32⟩
  | .hbm, ⟨102, _⟩ => ⟨S32768, .f32⟩
  | .hbm, ⟨103, _⟩ => ⟨S65536, .i32⟩
  | .hbm, ⟨104, _⟩ => ⟨S65536, .i32⟩
  | .hbm, ⟨105, _⟩ => ⟨S_, .i32⟩
  | .hbm, ⟨106, _⟩ => ⟨S65536, .i32⟩
  | .hbm, ⟨107, _⟩ => ⟨S65536, .i32⟩
  | .hbm, ⟨108, _⟩ => ⟨S65536, .f32⟩
  | .hbm, ⟨109, _⟩ => ⟨S131072, .i32⟩
  | .hbm, ⟨110, _⟩ => ⟨S131072, .i32⟩
  | .hbm, ⟨111, _⟩ => ⟨S131072, .f32⟩
  | _, _ => ⟨S2x163840, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_cst : Ref sig .tc := ⟨.hbm, 61, rfl⟩
abbrev main_call0_v1 : Ref sig .tc := ⟨.hbm, 62, rfl⟩
abbrev main_call0_v2 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_v0 : Ref sig .tc := ⟨.hbm, 70, rfl⟩
abbrev main_call1_cst : Ref sig .tc := ⟨.hbm, 71, rfl⟩
abbrev main_call1_v1 : Ref sig .tc := ⟨.hbm, 72, rfl⟩
abbrev main_call1_v2 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_values : Ref sig .tc := ⟨.hbm, 83, rfl⟩
abbrev main_indices : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_values_7 : Ref sig .tc := ⟨.hbm, 93, rfl⟩
abbrev main_indices_8 : Ref sig .tc := ⟨.hbm, 94, rfl⟩
abbrev main_v66 : Ref sig .tc := ⟨.hbm, 95, rfl⟩
abbrev main_c_9 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_10 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== Proof.RefTerms.lean ====
/-
  The reference's mathematics as functions of arrays, one per step of the text: the features, the sparse aggregation, the
  dense layers, the row normalisation, one batch of similarities with its 32 greatest per row, and the joined results.
  The names are used by the reference's run (RefRun) and, for the host steps the two programs share, by the kernel's reads.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe

variable {F : FTy → Type} [FloatOps F]

/-- A float array of shape `s`. -/
abbrev Flt (F : FTy → Type) (s : Shape) : Type := (⟨s, .f32⟩ : BufTy).Contents (Elt F)
/-- A 32-bit integer array of shape `s`. -/
abbrev Int32 (F : FTy → Type) (s : Shape) : Type := (⟨s, .i32⟩ : BufTy).Contents (Elt F)

/-- The users' features above the items'. -/
def features (x : Flt F S2048x512) (y : Flt F S8192x512) : Flt F S10240x512 :=
  concatenate S10240x512 0 [⟨S2048x512, x⟩, ⟨S8192x512, y⟩] concatenates_S2048x512_S8192x512_S10240x512_d0

/-- The destination node of each edge. -/
def rowIdx (e : Int32 F S2x163840) : Int32 F S163840 :=
  shapeCast S163840 (extractStridedSlice S1x163840 ![0, 0] e slices_S2x163840_S1x163840_0_0) shapeCasts_S1x163840_S163840

/-- The source node of each edge. -/
def colIdx (e : Int32 F S2x163840) : Int32 F S163840 :=
  shapeCast S163840 (extractStridedSlice S1x163840 ![1, 0] e slices_S2x163840_S1x163840_1_0) shapeCasts_S1x163840_S163840

/-- The source nodes as gather indices: a negative index counts from the end. -/
def wrapped (col : Int32 F S163840) : Int32 F S163840 :=
  select (cmpi .slt col (broadcastInDim S163840 ![] bcast_S_S163840 (constantI S_ 32 0#32)))
    (addi col (broadcastInDim S163840 ![] bcast_S_S163840 (constantI S_ 32 10240#32))) col

/-- The sparse aggregation: edge `e` adds its value times row `col e` of `h` to row `row e` of the result. -/
def segSum (row col : Int32 F S163840) (vals : Flt F S163840) (h : Flt F S10240x512) : Flt F S10240x512 :=
  Host.scatterAdd scatter_S10240x512_S163840x1_S163840x512_1_0_0_1
    (broadcastInDim S10240x512 ![] bcast_S_S10240x512 (constant S_ .f32 0x00000000#32))
    (broadcastInDim S163840x1 ![0] bcast_S163840_S163840x1_0 row)
    (mulf (broadcastInDim S163840x512 ![0, 1] bcast_S163840x1_S163840x512_0_1
        (broadcastInDim S163840x1 ![0] bcast_S163840_S163840x1_0 vals))
      (Host.gather gather_S10240x512_S163840x1_S163840x512_1_0_n_n_0_1_1512 h
        (broadcastInDim S163840x1 ![0] bcast_S163840_S163840x1_0 (wrapped col))))

/-- A dense layer without its clamp: `x · wᵀ + b`. -/
def layer (x : Flt F S10240x512) (w : Flt F S512x512) (b : Flt F S512) : Flt F S10240x512 :=
  addf (Host.dotGeneral dot_S10240x512_S512x512_S10240x512_1_0_0_1_n_n none x
      (transpose S512x512 [1, 0] w transposes_S512x512_S512x512_1_0))
    (broadcastInDim S10240x512 ![0, 1] bcast_S1x512_S10240x512_0_1 (broadcastInDim S1x512 ![1] bcast_S512_S1x512_1 b))

/-- Each entry's greater with zero. -/
def clampZero (x : Flt F S10240x512) : Flt F S10240x512 :=
  maximumf x (broadcastInDim S10240x512 ![] bcast_S_S10240x512 (constant S_ .f32 0x00000000#32))

/-- The users' half of the second layer, every row divided by its norm plus a small constant. -/
def unitUsers (h : Flt F S10240x512) : Flt F S2048x512 :=
  Host.divf (extractStridedSlice S2048x512 ![0, 0] h slices_S10240x512_S2048x512_0_0)
    (broadcastInDim S2048x512 ![0, 1] bcast_S2048x1_S2048x512_0_1
      (addf
        (Host.sqrt (broadcastInDim S2048x1 ![0] bcast_S2048_S2048x1_0
          (Host.reduceAdd
            (mulf (extractStridedSlice S2048x512 ![0, 0] h slices_S10240x512_S2048x512_0_0)
              (extractStridedSlice S2048x512 ![0, 0] h slices_S10240x512_S2048x512_0_0))
            (constant S_ .f32 0x00000000#32) reducesTo_S2048x512_S2048_d1 h_S_)))
        (broadcastInDim S2048x1 ![] bcast_S_S2048x1 (constant S_ .f32 0x322BCC77#32))))

/-- The items' half of the second layer, every row divided by its norm plus a small constant. -/
def unitItems (h : Flt F S10240x512) : Flt F S8192x512 :=
  Host.divf (extractStridedSlice S8192x512 ![2048, 0] h slices_S10240x512_S8192x512_2048_0)
    (broadcastInDim S8192x512 ![0, 1] bcast_S8192x1_S8192x512_0_1
      (addf
        (Host.sqrt (broadcastInDim S8192x1 ![0] bcast_S8192_S8192x1_0
          (Host.reduceAdd
            (mulf (extractStridedSlice S8192x512 ![2048, 0] h slices_S10240x512_S8192x512_2048_0)
              (extractStridedSlice S8192x512 ![2048, 0] h slices_S10240x512_S8192x512_2048_0))
            (constant S_ .f32 0x00000000#32) reducesTo_S8192x512_S8192_d1 h_S_)))
        (broadcastInDim S8192x1 ![] bcast_S_S8192x1 (constant S_ .f32 0x322BCC77#32))))

/-- The similarities of one batch of 1024 users with all items. -/
def batchSim (u : Flt F S1024x512) (it : Flt F S8192x512) : Flt F S1024x8192 :=
  Host.dotGeneral dot_S1024x512_S512x8192_S1024x8192_1_0_0_1_n_n none u
    (transpose S512x8192 [1, 0] it transposes_S8192x512_S512x8192_1_0)

/-- The first 1024 users. -/
def users0 (u : Flt F S2048x512) : Flt F S1024x512 :=
  extractStridedSlice S1024x512 ![0, 0] u slices_S2048x512_S1024x512_0_0
/-- The last 1024 users. -/
def users1 (u : Flt F S2048x512) : Flt F S1024x512 :=
  extractStridedSlice S1024x512 ![1024, 0] u slices_S2048x512_S1024x512_1024_0

/-- The 32 greatest similarities of each row of a batch, flattened. -/
def topVals (s : Flt F S1024x8192) : Flt F S32768 :=
  shapeCast S32768 (Host.topK S1024x32 1 (FloatOps.cmpfTotal .gt) s sliceFits_S1024x8192_S1024x32).1 shapeCasts_S1024x32_S32768
/-- The items they belong to, flattened. -/
def topIdx (s : Flt F S1024x8192) : Int32 F S32768 :=
  shapeCast S32768 (Host.topK S1024x32 1 (FloatOps.cmpfTotal .gt) s sliceFits_S1024x8192_S1024x32).2 shapeCasts_S1024x32_S32768

/-- The row number of every entry of the first batch. -/
def rows0 : Int32 F S32768 :=
  shapeCast S32768 (broadcastInDim S1024x32 ![0] bcast_S1024_S1024x32_0 (iotaInDim S1024 32 0)) shapeCasts_S1024x32_S32768
/-- The row number of every entry of the second batch. -/
def rows1 : Int32 F S32768 :=
  shapeCast S32768 (broadcastInDim S1024x32 ![0] bcast_S1024_S1024x32_0
    (addi (broadcastInDim S1024 ![] bcast_S_S1024 (constantI S_ 32 1024#32)) (iotaInDim S1024 32 0))) shapeCasts_S1024x32_S32768

/-- Two batches' flat arrays, one after the other. -/
def two {e : EltTy} (a b : (⟨S32768, e⟩ : BufTy).Contents (Elt F)) : (⟨S65536, e⟩ : BufTy).Contents (Elt F) :=
  concatenate S65536 0 [⟨S32768, a⟩, ⟨S32768, b⟩] concatenates_S32768_S32768_S65536_d0
/-- Two arrays of all entries, one after the other. -/
def twice {e : EltTy} (a b : (⟨S65536, e⟩ : BufTy).Contents (Elt F)) : (⟨S131072, e⟩ : BufTy).Contents (Elt F) :=
  concatenate S131072 0 [⟨S65536, a⟩, ⟨S65536, b⟩] concatenates_S65536_S65536_S131072_d0

/-- The item numbers moved behind the users': every item's node. -/
def nodes (i : Int32 F S65536) : Int32 F S65536 :=
  addi i (broadcastInDim S65536 ![] bcast_S_S65536 (constantI S_ 32 2048#32))

/-- The second layer's output, as a function of the eight arguments. -/
def hidden (a0 : Int32 F S2x163840) (a1 : Flt F S163840) (a2 : Flt F S2048x512) (a3 : Flt F S8192x512) (a4 : Flt F S512x512)
    (a5 : Flt F S512) (a6 : Flt F S512x512) (a7 : Flt F S512) : Flt F S10240x512 :=
  layer (segSum (rowIdx a0) (colIdx a0) a1 (clampZero (layer (segSum (rowIdx a0) (colIdx a0) a1 (features a2 a3)) a4 a5))) a6 a7

/-- The row number of every entry. -/
def rows : Int32 F S65536 := two rows0 rows1
/-- The item of every entry, from the normalised halves. -/
def cols (u : Flt F S2048x512) (it : Flt F S8192x512) : Int32 F S65536 :=
  nodes (two (topIdx (batchSim (users0 u) it)) (topIdx (batchSim (users1 u) it)))
/-- The weight of every entry, from the normalised halves. -/
def weights (u : Flt F S2048x512) (it : Flt F S8192x512) : Flt F S65536 :=
  two (topVals (batchSim (users0 u) it)) (topVals (batchSim (users1 u) it))

end Cert.Proof.Ref

end
-- ==== Proof.RefRun.lean ====
/-
  The reference's run. Its operations stand in eight stretches; each stretch is read once, at the buffers that a later
  stretch or the claim needs, as one of RefTerms' functions of the buffers before it. Together: every execution
  terminates with the three results at RefTerms' terms of the arguments, and the arguments unchanged.
-/
module

public import proofs.«01_k».proof.Proof.RefTerms

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- Operations 1 to 21 of the reference: the features, the two index rows and the first segment sum. -/
abbrev opsA : List (HloOp τ sig (Elt F)) :=
  [ binary main_arg2 main_arg3 main_v0 features,
    unary main_arg0 main_v1 ((extractStridedSlice S1x163840 ![0, 0] · slices_S2x163840_S1x163840_0_0) : (⟨S2x163840, .i32⟩ : BufTy).Contents (Elt F) → (⟨S1x163840, .i32⟩ : BufTy).Contents (Elt F)),
    reshape main_v1 main_v2 (rfl : (.i32 : EltTy) = .i32) shapeCasts_S1x163840_S163840,
    unary main_arg0 main_v3 ((extractStridedSlice S1x163840 ![1, 0] · slices_S2x163840_S1x163840_1_0) : (⟨S2x163840, .i32⟩ : BufTy).Contents (Elt F) → (⟨S1x163840, .i32⟩ : BufTy).Contents (Elt F)),
    reshape main_v3 main_v4 (rfl : (.i32 : EltTy) = .i32) shapeCasts_S1x163840_S163840,
    unary main_arg1 main_v5 (broadcastInDim S163840x1 ![0] bcast_S163840_S163840x1_0 : (⟨S163840, .f32⟩ : BufTy).Contents (Elt F) → (⟨S163840x1, .f32⟩ : BufTy).Contents (Elt F)),
    nullary main_c (constantI S_ 32 0#32),
    unary main_c main_v6 (broadcastInDim S163840 ![] bcast_S_S163840 : (⟨S_, .i32⟩ : BufTy).Contents (Elt F) → (⟨S163840, .i32⟩ : BufTy).Contents (Elt F)),
    binary main_v4 main_v6 main_v7 (cmpi .slt : (⟨S163840, .i32⟩ : BufTy).Contents (Elt F) → (⟨S163840, .i32⟩ : BufTy).Contents (Elt F) → (⟨S163840, .i1⟩ : BufTy).Contents (Elt F)),
    nullary main_c_0 (constantI S_ 32 10240#32),
    unary main_c_0 main_v8 (broadcastInDim S163840 ![] bcast_S_S163840 : (⟨S_, .i32⟩ : BufTy).Contents (Elt F) → (⟨S163840, .i32⟩ : BufTy).Contents (Elt F)),
    binary main_v4 main_v8 main_v9 (addi : (⟨S163840, .i32⟩ : BufTy).Contents (Elt F) → (⟨S163840, .i32⟩ : BufTy).Contents (Elt F) → (⟨S163840, .i32⟩ : BufTy).Contents (Elt F)),
    ternary main_v7 main_v9 main_v4 main_v10 (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)),
    unary main_v10 main_v11 (broadcastInDim S163840x1 ![0] bcast_S163840_S163840x1_0 : (⟨S163840, .i32⟩ : BufTy).Contents (Elt F) → (⟨S163840x1, .i32⟩ : BufTy).Contents (Elt F)),
    binary main_v0 main_v11 main_v12 ((fun x i => Host.gather gather_S10240x512_S163840x1_S163840x512_1_0_n_n_0_1_1512 x i) : (⟨S10240x512, .f32⟩ : BufTy).Contents (Elt F) → (⟨S163840x1, .i32⟩ : BufTy).Contents (Elt F) → (⟨S163840x512, .f32⟩ : BufTy).Contents (Elt F)),
    unary main_v5 main_v13 (broadcastInDim S163840x512 ![0, 1] bcast_S163840x1_S163840x512_0_1 : (⟨S163840x1, .f32⟩ : BufTy).Contents (Elt F) → (⟨S163840x512, .f32⟩ : BufTy).Contents (Elt F)),
    binary main_v13 main_v12 main_v14 (mulf : (⟨S163840x512, .f32⟩ : BufTy).Contents (Elt F) → (⟨S163840x512, .f32⟩ : BufTy).Contents (Elt F) → (⟨S163840x512, .f32⟩ : BufTy).Contents (Elt F)),
    nullary main_cst (constant S_ .f32 0x00000000#32),
    unary main_cst main_v15 (broadcastInDim S10240x512 ![] bcast_S_S10240x512 : (⟨S_, .f32⟩ : BufTy).Contents (Elt F) → (⟨S10240x512, .f32⟩ : BufTy).Contents (Elt F)),
    unary main_v2 main_v16 (broadcastInDim S163840x1 ![0] bcast_S163840_S163840x1_0 : (⟨S163840, .i32⟩ : BufTy).Contents (Elt F) → (⟨S163840x1, .i32⟩ : BufTy).Contents (Elt F)),
    ternary main_v15 main_v16 main_v14 main_v17 ((fun x i u => Host.scatterAdd scatter_S10240x512_S163840x1_S163840x512_1_0_0_1 x i u) : (⟨S10240x512, .f32⟩ : BufTy).Contents (Elt F) → (⟨S163840x1, .i32⟩ : BufTy).Contents (Elt F) → (⟨S163840x512, .f32⟩ : BufTy).Contents (Elt F) → (⟨S10240x512, .f32⟩ : BufTy).Contents (Elt F)) ]

/-- Operations 22 to 29 of the reference: the first layer: product, bias, clamp at zero. -/
abbrev opsB : List (HloOp τ sig (Elt F)) :=
  [ unary main_arg4 main_v18 ((transpose S512x512 [1, 0] · transposes_S512x512_S512x512_1_0) : (⟨S512x512, .f32⟩ : BufTy).Contents (Elt F) → (⟨S512x512, .f32⟩ : BufTy).Contents (Elt F)),
    binary main_v17 main_v18 main_v19 ((fun l r => Host.dotGeneral dot_S10240x512_S512x512_S10240x512_1_0_0_1_n_n none l r) : (⟨S10240x512, .f32⟩ : BufTy).Contents (Elt F) → (⟨S512x512, .f32⟩ : BufTy).Contents (Elt F) → (⟨S10240x512, .f32⟩ : BufTy).Contents (Elt F)),
    unary main_arg5 main_v20 (broadcastInDim S1x512 ![1] bcast_S512_S1x512_1 : (⟨S512, .f32⟩ : BufTy).Contents (Elt F) → (⟨S1x512, .f32⟩ : BufTy).Contents (Elt F)),
    unary main_v20 main_v21 (broadcastInDim S10240x512 ![0, 1] bcast_S1x512_S10240x512_0_1 : (⟨S1x512, .f32⟩ : BufTy).Contents (Elt F) → (⟨S10240x512, .f32⟩ : BufTy).Contents (Elt F)),
    binary main_v19 main_v21 main_v22 (addf : (⟨S10240x512, .f32⟩ : BufTy).Contents (Elt F) → (⟨S10240x512, .f32⟩ : BufTy).Contents (Elt F) → (⟨S10240x512, .f32⟩ : BufTy).Contents (Elt F)),
    nullary main_cst_1 (constant S_ .f32 0x00000000#32),
    unary main_cst_1 main_v23 (broadcastInDim S10240x512 ![] bcast_S_S10240x512 : (⟨S_, .f32⟩ : BufTy).Contents (Elt F) → (⟨S10240x512, .f32⟩ : BufTy).Contents (Elt F)),
    binary main_v22 main_v23 main_v24 (maximumf : (⟨S10240x512, .f32⟩ : BufTy).Contents (Elt F) → (⟨S10240x512, .f32⟩ : BufTy).Contents (Elt F) → (⟨S10240x512, .f32⟩ : BufTy).Contents (Elt F)) ]

/-- Operations 30 to 45 of the reference: the second segment sum. -/
abbrev opsC : List (HloOp τ sig (Elt F)) :=
  [ unary main_arg1 main_v25 (broadcastInDim S163840x1 ![0] bcast_S163840_S163840x1_0 : (⟨S163840, .f32⟩ : BufTy).Contents (Elt F) → (⟨S163840x1, .f32⟩ : BufTy).Contents (Elt F)),
    nullary main_c_2 (constantI S_ 32 0#32),
    unary main_c_2 main_v26 (broadcastInDim S163840 ![] bcast_S_S163840 : (⟨S_, .i32⟩ : BufTy).Contents (Elt F) → (⟨S163840, .i32⟩ : BufTy).Contents (Elt F)),
    binary main_v4 main_v26 main_v27 (cmpi .slt : (⟨S163840, .i32⟩ : BufTy).Contents (Elt F) → (⟨S163840, .i32⟩ : BufTy).Contents (Elt F) → (⟨S163840, .i1⟩ : BufTy).Contents (Elt F)),
    nullary main_c_3 (constantI S_ 32 10240#32),
    unary main_c_3 main_v28 (broadcastInDim S163840 ![] bcast_S_S163840 : (⟨S_, .i32⟩ : BufTy).Contents (Elt F) → (⟨S163840, .i32⟩ : BufTy).Contents (Elt F)),
    binary main_v4 main_v28 main_v29 (addi : (⟨S163840, .i32⟩ : BufTy).Contents (Elt F) → (⟨S163840, .i32⟩ : BufTy).Contents (Elt F) → (⟨S163840, .i32⟩ : BufTy).Contents (Elt F)),
    ternary main_v27 main_v29 main_v4 main_v30 (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)),
    unary main_v30 main_v31 (broadcastInDim S163840x1 ![0] bcast_S163840_S163840x1_0 : (⟨S163840, .i32⟩ : BufTy).Contents (Elt F) → (⟨S163840x1, .i32⟩ : BufTy).Contents (Elt F)),
    binary main_v24 main_v31 main_v32 ((fun x i => Host.gather gather_S10240x512_S163840x1_S163840x512_1_0_n_n_0_1_1512 x i) : (⟨S10240x512, .f32⟩ : BufTy).Contents (Elt F) → (⟨S163840x1, .i32⟩ : BufTy).Contents (Elt F) → (⟨S163840x512, .f32⟩ : BufTy).Contents (Elt F)),
    unary main_v25 main_v33 (broadcastInDim S163840x512 ![0, 1] bcast_S163840x1_S163840x512_0_1 : (⟨S163840x1, .f32⟩ : BufTy).Contents (Elt F) → (⟨S163840x512, .f32⟩ : BufTy).Contents (Elt F)),
    binary main_v33 main_v32 main_v34 (mulf : (⟨S163840x512, .f32⟩ : BufTy).Contents (Elt F) → (⟨S163840x512, .f32⟩ : BufTy).Contents (Elt F) → (⟨S163840x512, .f32⟩ : BufTy).Contents (Elt F)),
    nullary main_cst_4 (constant S_ .f32 0x00000000#32),
    unary main_cst_4 main_v35 (broadcastInDim S10240x512 ![] bcast_S_S10240x512 : (⟨S_, .f32⟩ : BufTy).Contents (Elt F) → (⟨S10240x512, .f32⟩ : BufTy).Contents (Elt F)),
    unary main_v2 main_v36 (broadcastInDim S163840x1 ![0] bcast_S163840_S163840x1_0 : (⟨S163840, .i32⟩ : BufTy).Contents (Elt F) → (⟨S163840x1, .i32⟩ : BufTy).Contents (Elt F)),
    ternary main_v35 main_v36 main_v34 main_v37 ((fun x i u => Host.scatterAdd scatter_S10240x512_S163840x1_S163840x512_1_0_0_1 x i u) : (⟨S10240x512, .f32⟩ : BufTy).Contents (Elt F) → (⟨S163840x1, .i32⟩ : BufTy).Contents (Elt F) → (⟨S163840x512, .f32⟩ : BufTy).Contents (Elt F) → (⟨S10240x512, .f32⟩ : BufTy).Contents (Elt F)) ]

/-- Operations 46 to 50 of the reference: the second layer: product and bias. -/
abbrev opsD : List (HloOp τ sig (Elt F)) :=
  [ unary main_arg6 main_v38 ((transpose S512x512 [1, 0] · transposes_S512x512_S512x512_1_0) : (⟨S512x512, .f32⟩ : BufTy).Contents (Elt F) → (⟨S512x512, .f32⟩ : BufTy).Contents (Elt F)),
    binary main_v37 main_v38 main_v39 ((fun l r => Host.dotGeneral dot_S10240x512_S512x512_S10240x512_1_0_0_1_n_n none l r) : (⟨S10240x512, .f32⟩ : BufTy).Contents (Elt F) → (⟨S512x512, .f32⟩ : BufTy).Contents (Elt F) → (⟨S10240x512, .f32⟩ : BufTy).Contents (Elt F)),
    unary main_arg7 main_v40 (broadcastInDim S1x512 ![1] bcast_S512_S1x512_1 : (⟨S512, .f32⟩ : BufTy).Contents (Elt F) → (⟨S1x512, .f32⟩ : BufTy).Contents (Elt F)),
    unary main_v40 main_v41 (broadcastInDim S10240x512 ![0, 1] bcast_S1x512_S10240x512_0_1 : (⟨S1x512, .f32⟩ : BufTy).Contents (Elt F) → (⟨S10240x512, .f32⟩ : BufTy).Contents (Elt F)),
    binary main_v39 main_v41 main_v42 (addf : (⟨S10240x512, .f32⟩ : BufTy).Contents (Elt F) → (⟨S10240x512, .f32⟩ : BufTy).Contents (Elt F) → (⟨S10240x512, .f32⟩ : BufTy).Contents (Elt F)) ]

/-- Operations 51 to 72 of the reference: the two halves, each row divided by its norm. -/
abbrev opsE : List (HloOp τ sig (Elt F)) :=
  [ unary main_v42 main_v43 ((extractStridedSlice S2048x512 ![0, 0] · slices_S10240x512_S2048x512_0_0) : (⟨S10240x512, .f32⟩ : BufTy).Contents (Elt F) → (⟨S2048x512, .f32⟩ : BufTy).Contents (Elt F)),
    unary main_v42 main_v44 ((extractStridedSlice S8192x512 ![2048, 0] · slices_S10240x512_S8192x512_2048_0) : (⟨S10240x512, .f32⟩ : BufTy).Contents (Elt F) → (⟨S8192x512, .f32⟩ : BufTy).Contents (Elt F)),
    TRef.binary (TRef.of (T := ⟨S2048x512, .f32⟩) main_v43) (TRef.of (T := ⟨S2048x512, .f32⟩) main_v43) (TRef.of (T := ⟨S2048x512, .f32⟩) main_call0_v0) mulf,
    TRef.nullary (TRef.of (T := ⟨S_, .f32⟩) main_call0_cst) (constant S_ .f32 0x00000000#32),
    TRef.binary (TRef.of (T := ⟨S2048x512, .f32⟩) main_call0_v0) (TRef.of (T := ⟨S_, .f32⟩) main_call0_cst) (TRef.of (T := ⟨S2048, .f32⟩) main_call0_v1) (fun x v => Host.reduceAdd x v reducesTo_S2048x512_S2048_d1 h_S_),
    TRef.unary (TRef.of (T := ⟨S2048, .f32⟩) main_call0_v1) (TRef.of (T := ⟨S2048x1, .f32⟩) main_call0_v2) (broadcastInDim S2048x1 ![0] bcast_S2048_S2048x1_0),
    TRef.unary (TRef.of (T := ⟨S2048x1, .f32⟩) main_call0_v2) (TRef.of (T := ⟨S2048x1, .f32⟩) main_v45) Host.sqrt,
    nullary main_cst_5 (constant S_ .f32 0x322BCC77#32),
    unary main_cst_5 main_v46 (broadcastInDim S2048x1 ![] bcast_S_S2048x1 : (⟨S_, .f32⟩ : BufTy).Contents (Elt F) → (⟨S2048x1, .f32⟩ : BufTy).Contents (Elt F)),
    binary main_v45 main_v46 main_v47 (addf : (⟨S2048x1, .f32⟩ : BufTy).Contents (Elt F) → (⟨S2048x1, .f32⟩ : BufTy).Contents (Elt F) → (⟨S2048x1, .f32⟩ : BufTy).Contents (Elt F)),
    unary main_v47 main_v48 (broadcastInDim S2048x512 ![0, 1] bcast_S2048x1_S2048x512_0_1 : (⟨S2048x1, .f32⟩ : BufTy).Contents (Elt F) → (⟨S2048x512, .f32⟩ : BufTy).Contents (Elt F)),
    binary main_v43 main_v48 main_v49 (Host.divf : (⟨S2048x512, .f32⟩ : BufTy).Contents (Elt F) → (⟨S2048x512, .f32⟩ : BufTy).Contents (Elt F) → (⟨S2048x512, .f32⟩ : BufTy).Contents (Elt F)),
    TRef.binary (TRef.of (T := ⟨S8192x512, .f32⟩) main_v44) (TRef.of (T := ⟨S8192x512, .f32⟩) main_v44) (TRef.of (T := ⟨S8192x512, .f32⟩) main_call1_v0) mulf,
    TRef.nullary (TRef.of (T := ⟨S_, .f32⟩) main_call1_cst) (constant S_ .f32 0x00000000#32),
    TRef.binary (TRef.of (T := ⟨S8192x512, .f32⟩) main_call1_v0) (TRef.of (T := ⟨S_, .f32⟩) main_call1_cst) (TRef.of (T := ⟨S8192, .f32⟩) main_call1_v1) (fun x v => Host.reduceAdd x v reducesTo_S8192x512_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v50) Host.sqrt,
    nullary main_cst_6 (constant S_ .f32 0x322BCC77#32),
    unary main_cst_6 main_v51 (broadcastInDim S8192x1 ![] bcast_S_S8192x1 : (⟨S_, .f32⟩ : BufTy).Contents (Elt F) → (⟨S8192x1, .f32⟩ : BufTy).Contents (Elt F)),
    binary main_v50 main_v51 main_v52 (addf : (⟨S8192x1, .f32⟩ : BufTy).Contents (Elt F) → (⟨S8192x1, .f32⟩ : BufTy).Contents (Elt F) → (⟨S8192x1, .f32⟩ : BufTy).Contents (Elt F)),
    unary main_v52 main_v53 (broadcastInDim S8192x512 ![0, 1] bcast_S8192x1_S8192x512_0_1 : (⟨S8192x1, .f32⟩ : BufTy).Contents (Elt F) → (⟨S8192x512, .f32⟩ : BufTy).Contents (Elt F)),
    binary main_v44 main_v53 main_v54 (Host.divf : (⟨S8192x512, .f32⟩ : BufTy).Contents (Elt F) → (⟨S8192x512, .f32⟩ : BufTy).Contents (Elt F) → (⟨S8192x512, .f32⟩ : BufTy).Contents (Elt F)) ]

/-- Operations 73 to 82 of the reference: the first batch of rows: similarities and their 32 greatest. -/
abbrev opsF : List (HloOp τ sig (Elt F)) :=
  [ unary main_v49 main_v55 ((extractStridedSlice S1024x512 ![0, 0] · slices_S2048x512_S1024x512_0_0) : (⟨S2048x512, .f32⟩ : BufTy).Contents (Elt F) → (⟨S1024x512, .f32⟩ : BufTy).Contents (Elt F)),
    unary main_v54 main_v56 ((transpose S512x8192 [1, 0] · transposes_S8192x512_S512x8192_1_0) : (⟨S8192x512, .f32⟩ : BufTy).Contents (Elt F) → (⟨S512x8192, .f32⟩ : BufTy).Contents (Elt F)),
    binary main_v55 main_v56 main_v57 ((fun l r => Host.dotGeneral dot_S1024x512_S512x8192_S1024x8192_1_0_0_1_n_n none l r) : (⟨S1024x512, .f32⟩ : BufTy).Contents (Elt F) → (⟨S512x8192, .f32⟩ : BufTy).Contents (Elt F) → (⟨S1024x8192, .f32⟩ : BufTy).Contents (Elt F)),
    unary main_v57 main_values ((fun x => (Host.topK S1024x32 1 (FloatOps.cmpfTotal .gt) x sliceFits_S1024x8192_S1024x32).1) : (⟨S1024x8192, .f32⟩ : BufTy).Contents (Elt F) → (⟨S1024x32, .f32⟩ : BufTy).Contents (Elt F)),
    unary main_v57 main_indices ((fun x => (Host.topK S1024x32 1 (FloatOps.cmpfTotal .gt) x sliceFits_S1024x8192_S1024x32).2) : (⟨S1024x8192, .f32⟩ : BufTy).Contents (Elt F) → (⟨S1024x32, .i32⟩ : BufTy).Contents (Elt F)),
    nullary main_v58 (iotaInDim S1024 32 0),
    unary main_v58 main_v59 (broadcastInDim S1024x32 ![0] bcast_S1024_S1024x32_0 : (⟨S1024, .i32⟩ : BufTy).Contents (Elt F) → (⟨S1024x32, .i32⟩ : BufTy).Contents (Elt F)),
    reshape main_v59 main_v60 (rfl : (.i32 : EltTy) = .i32) shapeCasts_S1024x32_S32768,
    reshape main_indices main_v61 (rfl : (.i32 : EltTy) = .i32) shapeCasts_S1024x32_S32768,
    reshape main_values main_v62 (rfl : (.f32 : EltTy) = .f32) shapeCasts_S1024x32_S32768 ]

/-- Operations 83 to 95 of the reference: the second batch of rows. -/
abbrev opsG : List (HloOp τ sig (Elt F)) :=
  [ unary main_v49 main_v63 ((extractStridedSlice S1024x512 ![1024, 0] · slices_S2048x512_S1024x512_1024_0) : (⟨S2048x512, .f32⟩ : BufTy).Contents (Elt F) → (⟨S1024x512, .f32⟩ : BufTy).Contents (Elt F)),
    unary main_v54 main_v64 ((transpose S512x8192 [1, 0] · transposes_S8192x512_S512x8192_1_0) : (⟨S8192x512, .f32⟩ : BufTy).Contents (Elt F) → (⟨S512x8192, .f32⟩ : BufTy).Contents (Elt F)),
    binary main_v63 main_v64 main_v65 ((fun l r => Host.dotGeneral dot_S1024x512_S512x8192_S1024x8192_1_0_0_1_n_n none l r) : (⟨S1024x512, .f32⟩ : BufTy).Contents (Elt F) → (⟨S512x8192, .f32⟩ : BufTy).Contents (Elt F) → (⟨S1024x8192, .f32⟩ : BufTy).Contents (Elt F)),
    unary main_v65 main_values_7 ((fun x => (Host.topK S1024x32 1 (FloatOps.cmpfTotal .gt) x sliceFits_S1024x8192_S1024x32).1) : (⟨S1024x8192, .f32⟩ : BufTy).Contents (Elt F) → (⟨S1024x32, .f32⟩ : BufTy).Contents (Elt F)),
    unary main_v65 main_indices_8 ((fun x => (Host.topK S1024x32 1 (FloatOps.cmpfTotal .gt) x sliceFits_S1024x8192_S1024x32).2) : (⟨S1024x8192, .f32⟩ : BufTy).Contents (Elt F) → (⟨S1024x32, .i32⟩ : BufTy).Contents (Elt F)),
    nullary main_v66 (iotaInDim S1024 32 0),
    nullary main_c_9 (constantI S_ 32 1024#32),
    unary main_c_9 main_v67 (broadcastInDim S1024 ![] bcast_S_S1024 : (⟨S_, .i32⟩ : BufTy).Contents (Elt F) → (⟨S1024, .i32⟩ : BufTy).Contents (Elt F)),
    binary main_v67 main_v66 main_v68 (addi : (⟨S1024, .i32⟩ : BufTy).Contents (Elt F) → (⟨S1024, .i32⟩ : BufTy).Contents (Elt F) → (⟨S1024, .i32⟩ : BufTy).Contents (Elt F)),
    unary main_v68 main_v69 (broadcastInDim S1024x32 ![0] bcast_S1024_S1024x32_0 : (⟨S1024, .i32⟩ : BufTy).Contents (Elt F) → (⟨S1024x32, .i32⟩ : BufTy).Contents (Elt F)),
    reshape main_v69 main_v70 (rfl : (.i32 : EltTy) = .i32) shapeCasts_S1024x32_S32768,
    reshape main_indices_8 main_v71 (rfl : (.i32 : EltTy) = .i32) shapeCasts_S1024x32_S32768,
    reshape main_values_7 main_v72 (rfl : (.f32 : EltTy) = .f32) shapeCasts_S1024x32_S32768 ]

/-- Operations 96 to 104 of the reference: the batches joined and the results. -/
abbrev opsH : List (HloOp τ sig (Elt F)) :=
  [ binary main_v60 main_v70 main_v73 two,
    binary main_v61 main_v71 main_v74 two,
    nullary main_c_10 (constantI S_ 32 2048#32),
    unary main_c_10 main_v75 (broadcastInDim S65536 ![] bcast_S_S65536 : (⟨S_, .i32⟩ : BufTy).Contents (Elt F) → (⟨S65536, .i32⟩ : BufTy).Contents (Elt F)),
    binary main_v74 main_v75 main_v76 (addi : (⟨S65536, .i32⟩ : BufTy).Contents (Elt F) → (⟨S65536, .i32⟩ : BufTy).Contents (Elt F) → (⟨S65536, .i32⟩ : BufTy).Contents (Elt F)),
    binary main_v62 main_v72 main_v77 two,
    binary main_v73 main_v76 main_v78 twice,
    binary main_v76 main_v73 main_v79 twice,
    binary main_v77 main_v77 main_v80 twice ]

/-- All operations of the reference, in order. -/
abbrev opsAll : List (HloOp τ sig (Elt F)) := opsA ++ (opsB ++ (opsC ++ (opsD ++ (opsE ++ (opsF ++ (opsG ++ opsH))))))

set_option maxRecDepth 8192 in
set_option maxHeartbeats 4000000 in
/-- The reference's program is the line of these operations. -/
theorem main_eq (c : Dev nD) : main (F := F) c = seq opsAll := rfl

/-- The program scopes no buffer. -/
theorem scopedRefs_eq : (Finset.univ.filter fun b : Ref sig .tc => b.isScoped) = ∅ := by decide
/-- The program scopes no counter. -/
theorem scopedSems_eq : (Finset.univ.filter fun sm : SemLoc sig => sm.isScoped .tc) = ∅ := by decide

/-- Stretch A touches buffers of the TensorCore only. -/
theorem subsA : (opsA : List (HloOp τ sig (Elt F))).Forall fun op => op.bufs ⊆ tcRefs τ sig :=
  ⟨binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
/-- What stretch A writes. -/
abbrev wrA : List (Ref sig .tc) := [main_v0, main_v1, main_v2, main_v3, main_v4, main_v5, main_c, main_v6, main_v7, main_c_0, main_v8, main_v9, main_v10, main_v11, main_v12, main_v13, main_v14, main_cst, main_v15, main_v16, main_v17]
/-- A buffer stretch A does not write keeps its contents. -/
theorem keepA (V : Valuation τ sig (Elt F)) {r : Ref sig .tc} (h : r ∉ wrA) :
    after opsA V (Proc.devRef .tc r) = V (Proc.devRef .tc r) :=
  after_of_writes_sub opsA V (forall_writes_sub_of_map rfl) h

/-- Stretch B touches buffers of the TensorCore only. -/
theorem subsB : (opsB : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
/-- What stretch B writes. -/
abbrev wrB : List (Ref sig .tc) := [main_v18, main_v19, main_v20, main_v21, main_v22, main_cst_1, main_v23, main_v24]
/-- A buffer stretch B does not write keeps its contents. -/
theorem keepB (V : Valuation τ sig (Elt F)) {r : Ref sig .tc} (h : r ∉ wrB) :
    after opsB V (Proc.devRef .tc r) = V (Proc.devRef .tc r) :=
  after_of_writes_sub opsB V (forall_writes_sub_of_map rfl) h

/-- Stretch C touches buffers of the TensorCore only. -/
theorem subsC : (opsC : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
/-- What stretch C writes. -/
abbrev wrC : List (Ref sig .tc) := [main_v25, main_c_2, main_v26, main_v27, main_c_3, main_v28, main_v29, main_v30, main_v31, main_v32, main_v33, main_v34, main_cst_4, main_v35, main_v36, main_v37]
/-- A buffer stretch C does not write keeps its contents. -/
theorem keepC (V : Valuation τ sig (Elt F)) {r : Ref sig .tc} (h : r ∉ wrC) :
    after opsC V (Proc.devRef .tc r) = V (Proc.devRef .tc r) :=
  after_of_writes_sub opsC V (forall_writes_sub_of_map rfl) h

/-- Stretch D touches buffers of the TensorCore only. -/
theorem subsD : (opsD : List (HloOp τ sig (Elt F))).Forall fun op => op.bufs ⊆ tcRefs τ sig :=
  ⟨unary_bufs_sub .., binary_bufs_sub .., unary_bufs_sub .., unary_bufs_sub .., binary_bufs_sub ..⟩
/-- What stretch D writes. -/
abbrev wrD : List (Ref sig .tc) := [main_v38, main_v39, main_v40, main_v41, main_v42]
/-- A buffer stretch D does not write keeps its contents. -/
theorem keepD (V : Valuation τ sig (Elt F)) {r : Ref sig .tc} (h : r ∉ wrD) :
    after opsD V (Proc.devRef .tc r) = V (Proc.devRef .tc r) :=
  after_of_writes_sub opsD V (forall_writes_sub_of_map rfl) h

/-- Stretch E touches buffers of the TensorCore only. -/
theorem subsE : (opsE : List (HloOp τ sig (Elt F))).Forall fun op => op.bufs ⊆ tcRefs τ sig :=
  ⟨unary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
/-- What stretch E writes. -/
abbrev wrE : List (Ref sig .tc) := [main_v43, main_v44, main_call0_v0, main_call0_cst, main_call0_v1, main_call0_v2, main_v45, main_cst_5, main_v46, main_v47, main_v48, main_v49, main_call1_v0, main_call1_cst, main_call1_v1, main_call1_v2, main_v50, main_cst_6, main_v51, main_v52, main_v53, main_v54]
/-- A buffer stretch E does not write keeps its contents. -/
theorem keepE (V : Valuation τ sig (Elt F)) {r : Ref sig .tc} (h : r ∉ wrE) :
    after opsE V (Proc.devRef .tc r) = V (Proc.devRef .tc r) :=
  after_of_writes_sub opsE V (forall_writes_sub_of_map rfl) h

/-- Stretch F touches buffers of the TensorCore only. -/
theorem subsF : (opsF : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., reshape_bufs_sub .., reshape_bufs_sub .., reshape_bufs_sub ..⟩
/-- What stretch F writes. -/
abbrev wrF : List (Ref sig .tc) := [main_v55, main_v56, main_v57, main_values, main_indices, main_v58, main_v59, main_v60, main_v61, main_v62]
/-- A buffer stretch F does not write keeps its contents. -/
theorem keepF (V : Valuation τ sig (Elt F)) {r : Ref sig .tc} (h : r ∉ wrF) :
    after opsF V (Proc.devRef .tc r) = V (Proc.devRef .tc r) :=
  after_of_writes_sub opsF V (forall_writes_sub_of_map rfl) h

/-- Stretch G touches buffers of the TensorCore only. -/
theorem subsG : (opsG : List (HloOp τ sig (Elt F))).Forall fun op => op.bufs ⊆ tcRefs τ sig :=
  ⟨unary_bufs_sub .., unary_bufs_sub .., binary_bufs_sub .., unary_bufs_sub .., unary_bufs_sub .., nullary_bufs_sub .., nullary_bufs_sub .., unary_bufs_sub .., binary_bufs_sub .., unary_bufs_sub .., reshape_bufs_sub .., reshape_bufs_sub .., reshape_bufs_sub ..⟩
/-- What stretch G writes. -/
abbrev wrG : List (Ref sig .tc) := [main_v63, main_v64, main_v65, main_values_7, main_indices_8, main_v66, main_c_9, main_v67, main_v68, main_v69, main_v70, main_v71, main_v72]
/-- A buffer stretch G does not write keeps its contents. -/
theorem keepG (V : Valuation τ sig (Elt F)) {r : Ref sig .tc} (h : r ∉ wrG) :
    after opsG V (Proc.devRef .tc r) = V (Proc.devRef .tc r) :=
  after_of_writes_sub opsG V (forall_writes_sub_of_map rfl) h

/-- Stretch H touches buffers of the TensorCore only. -/
theorem subsH : (opsH : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., binary_bufs_sub .., binary_bufs_sub ..⟩
/-- What stretch H writes. -/
abbrev wrH : List (Ref sig .tc) := [main_v73, main_v74, main_c_10, main_v75, main_v76, main_v77, main_v78, main_v79, main_v80]
/-- A buffer stretch H does not write keeps its contents. -/
theorem keepH (V : Valuation τ sig (Elt F)) {r : Ref sig .tc} (h : r ∉ wrH) :
    after opsH V (Proc.devRef .tc r) = V (Proc.devRef .tc r) :=
  after_of_writes_sub opsH V (forall_writes_sub_of_map rfl) h

/-- Stretch A read at `main_v2`. -/
theorem atA_main_v2 (V : Valuation τ sig (Elt F)) :
    after opsA V (Proc.devRef .tc main_v2) = rowIdx (V (Proc.devRef .tc main_arg0)) := by
  simp only [opsA, TRef.binary, TRef.nullary, TRef.unary, TRef.toBuf, TRef.ofBuf, cast_eq]
  after_results_simp <;> rfl

/-- Stretch A read at `main_v4`. -/
theorem atA_main_v4 (V : Valuation τ sig (Elt F)) :
    after opsA V (Proc.devRef .tc main_v4) = colIdx (V (Proc.devRef .tc main_arg0)) := by
  simp only [opsA, TRef.binary, TRef.nullary, TRef.unary, TRef.toBuf, TRef.ofBuf, cast_eq]
  after_results_simp <;> rfl

/-- Stretch A read at `main_v17`. -/
theorem atA_main_v17 (V : Valuation τ sig (Elt F)) :
    after opsA V (Proc.devRef .tc main_v17) = segSum (rowIdx (V (Proc.devRef .tc main_arg0))) (colIdx (V (Proc.devRef .tc main_arg0))) (V (Proc.devRef .tc main_arg1)) (features (V (Proc.devRef .tc main_arg2)) (V (Proc.devRef .tc main_arg3))) := by
  simp only [opsA, TRef.binary, TRef.nullary, TRef.unary, TRef.toBuf, TRef.ofBuf, cast_eq]
  after_results_simp <;> rfl

/-- Stretch B read at `main_v24`. -/
theorem atB_main_v24 (V : Valuation τ sig (Elt F)) :
    after opsB V (Proc.devRef .tc main_v24) = clampZero (layer (V (Proc.devRef .tc main_v17)) (V (Proc.devRef .tc main_arg4)) (V (Proc.devRef .tc main_arg5))) := by
  simp only [opsB, TRef.binary, TRef.nullary, TRef.unary, TRef.toBuf, TRef.ofBuf, cast_eq]
  after_results_simp <;> rfl

/-- Stretch C read at `main_v37`. -/
theorem atC_main_v37 (V : Valuation τ sig (Elt F)) :
    after opsC V (Proc.devRef .tc main_v37) = segSum (V (Proc.devRef .tc main_v2)) (V (Proc.devRef .tc main_v4)) (V (Proc.devRef .tc main_arg1)) (V (Proc.devRef .tc main_v24)) := by
  simp only [opsC, TRef.binary, TRef.nullary, TRef.unary, TRef.toBuf, TRef.ofBuf, cast_eq]
  after_results_simp <;> rfl

/-- Stretch D read at `main_v42`. -/
theorem atD_main_v42 (V : Valuation τ sig (Elt F)) :
    after opsD V (Proc.devRef .tc main_v42) = layer (V (Proc.devRef .tc main_v37)) (V (Proc.devRef .tc main_arg6)) (V (Proc.devRef .tc main_arg7)) := by
  simp only [opsD, TRef.binary, TRef.nullary, TRef.unary, TRef.toBuf, TRef.ofBuf, cast_eq]
  after_results_simp <;> rfl

/-- Stretch E read at `main_v49`. -/
theorem atE_main_v49 (V : Valuation τ sig (Elt F)) :
    after opsE V (Proc.devRef .tc main_v49) = unitUsers (V (Proc.devRef .tc main_v42)) := by
  simp only [opsE, TRef.binary, TRef.nullary, TRef.unary, TRef.toBuf, TRef.ofBuf, cast_eq]
  after_results_simp <;> rfl

/-- Stretch E read at `main_v54`. -/
theorem atE_main_v54 (V : Valuation τ sig (Elt F)) :
    after opsE V (Proc.devRef .tc main_v54) = unitItems (V (Proc.devRef .tc main_v42)) := by
  simp only [opsE, TRef.binary, TRef.nullary, TRef.unary, TRef.toBuf, TRef.ofBuf, cast_eq]
  after_results_simp <;> rfl

/-- Stretch F read at `main_v60`. -/
theorem atF_main_v60 (V : Valuation τ sig (Elt F)) :
    after opsF V (Proc.devRef .tc main_v60) = rows0 := by
  simp only [opsF, TRef.binary, TRef.nullary, TRef.unary, TRef.toBuf, TRef.ofBuf, cast_eq]
  after_results_simp <;> rfl

/-- Stretch F read at `main_v61`. -/
theorem atF_main_v61 (V : Valuation τ sig (Elt F)) :
    after opsF V (Proc.devRef .tc main_v61) = topIdx (batchSim (users0 (V (Proc.devRef .tc main_v49))) (V (Proc.devRef .tc main_v54))) := by
  simp only [opsF, TRef.binary, TRef.nullary, TRef.unary, TRef.toBuf, TRef.ofBuf, cast_eq]
  after_results_simp <;> rfl

/-- Stretch F read at `main_v62`. -/
theorem atF_main_v62 (V : Valuation τ sig (Elt F)) :
    after opsF V (Proc.devRef .tc main_v62) = topVals (batchSim (users0 (V (Proc.devRef .tc main_v49))) (V (Proc.devRef .tc main_v54))) := by
  simp only [opsF, TRef.binary, TRef.nullary, TRef.unary, TRef.toBuf, TRef.ofBuf, cast_eq]
  after_results_simp <;> rfl

/-- Stretch G read at `main_v70`. -/
theorem atG_main_v70 (V : Valuation τ sig (Elt F)) :
    after opsG V (Proc.devRef .tc main_v70) = rows1 := by
  simp only [opsG, TRef.binary, TRef.nullary, TRef.unary, TRef.toBuf, TRef.ofBuf, cast_eq]
  after_results_simp <;> rfl

/-- Stretch G read at `main_v71`. -/
theorem atG_main_v71 (V : Valuation τ sig (Elt F)) :
    after opsG V (Proc.devRef .tc main_v71) = topIdx (batchSim (users1 (V (Proc.devRef .tc main_v49))) (V (Proc.devRef .tc main_v54))) := by
  simp only [opsG, TRef.binary, TRef.nullary, TRef.unary, TRef.toBuf, TRef.ofBuf, cast_eq]
  after_results_simp <;> rfl

/-- Stretch G read at `main_v72`. -/
theorem atG_main_v72 (V : Valuation τ sig (Elt F)) :
    after opsG V (Proc.devRef .tc main_v72) = topVals (batchSim (users1 (V (Proc.devRef .tc main_v49))) (V (Proc.devRef .tc main_v54))) := by
  simp only [opsG, TRef.binary, TRef.nullary, TRef.unary, TRef.toBuf, TRef.ofBuf, cast_eq]
  after_results_simp <;> rfl

/-- Stretch H read at `main_v78`. -/
theorem atH_main_v78 (V : Valuation τ sig (Elt F)) :
    after opsH V (Proc.devRef .tc main_v78) = twice (two (V (Proc.devRef .tc main_v60)) (V (Proc.devRef .tc main_v70))) (nodes (two (V (Proc.devRef .tc main_v61)) (V (Proc.devRef .tc main_v71)))) := by
  simp only [opsH, TRef.binary, TRef.nullary, TRef.unary, TRef.toBuf, TRef.ofBuf, cast_eq]
  after_results_simp <;> rfl

/-- Stretch H read at `main_v79`. -/
theorem atH_main_v79 (V : Valuation τ sig (Elt F)) :
    after opsH V (Proc.devRef .tc main_v79) = twice (nodes (two (V (Proc.devRef .tc main_v61)) (V (Proc.devRef .tc main_v71)))) (two (V (Proc.devRef .tc main_v60)) (V (Proc.devRef .tc main_v70))) := by
  simp only [opsH, TRef.binary, TRef.nullary, TRef.unary, TRef.toBuf, TRef.ofBuf, cast_eq]
  after_results_simp <;> rfl

/-- Stretch H read at `main_v80`. -/
theorem atH_main_v80 (V : Valuation τ sig (Elt F)) :
    after opsH V (Proc.devRef .tc main_v80) = twice (two (V (Proc.devRef .tc main_v62)) (V (Proc.devRef .tc main_v72))) (two (V (Proc.devRef .tc main_v62)) (V (Proc.devRef .tc main_v72))) := by
  simp only [opsH, TRef.binary, TRef.nullary, TRef.unary, TRef.toBuf, TRef.ofBuf, cast_eq]
  after_results_simp <;> rfl

/-- The line of all operations leaves what the eight stretches leave one after the other. -/
theorem after_all (V : Valuation τ sig (Elt F)) :
    after opsAll V = after opsH (after opsG (after opsF (after opsE (after opsD (after opsC (after opsB (after opsA V))))))) := rfl

/-- A buffer that nothing writes keeps its contents through the whole line. -/
theorem keep_all (V : Valuation τ sig (Elt F)) {r : Ref sig .tc} (hA : r ∉ wrA) (hB : r ∉ wrB) (hC : r ∉ wrC) (hD : r ∉ wrD)
    (hE : r ∉ wrE) (hF : r ∉ wrF) (hG : r ∉ wrG) (hH : r ∉ wrH) :
    after opsAll V (Proc.devRef .tc r) = V (Proc.devRef .tc r) := by
  rw [after_all, keepH _ hH, keepG _ hG, keepF _ hF, keepE _ hE, keepD _ hD, keepC _ hC, keepB _ hB, keepA _ hA]

/-- The second layer's output after the first four stretches. -/
theorem hidden_at (V : Valuation τ sig (Elt F)) :
    after opsD (after opsC (after opsB (after opsA V))) (Proc.devRef .tc main_v42)
      = hidden (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [atD_main_v42, atC_main_v37, keepC _ (r := main_arg6) (by decide), keepC _ (r := main_arg7) (by decide),
    atB_main_v24, keepB _ (r := main_v2) (by decide), keepB _ (r := main_v4) (by decide),
    keepB _ (r := main_arg1) (by decide), keepB _ (r := main_arg6) (by decide), keepB _ (r := main_arg7) (by decide),
    atA_main_v2, atA_main_v4, atA_main_v17, keepA _ (r := main_arg1) (by decide), keepA _ (r := main_arg4) (by decide),
    keepA _ (r := main_arg5) (by decide), keepA _ (r := main_arg6) (by decide), keepA _ (r := main_arg7) (by decide)]
  rfl

/-- The entries' rows, before the results are joined. -/
theorem rows_at (V : Valuation τ sig (Elt F)) :
    two (after opsG (after opsF V) (Proc.devRef .tc main_v60)) (after opsG (after opsF V) (Proc.devRef .tc main_v70)) = rows (F := F) := by
  rw [atG_main_v70, keepG _ (r := main_v60) (by decide), atF_main_v60]; rfl

/-- The entries' items, before the results are joined. -/
theorem cols_at (V : Valuation τ sig (Elt F)) :
    nodes (two (after opsG (after opsF (after opsE V)) (Proc.devRef .tc main_v61)) (after opsG (after opsF (after opsE V)) (Proc.devRef .tc main_v71)))
      = cols (unitUsers (V (Proc.devRef .tc main_v42))) (unitItems (V (Proc.devRef .tc main_v42))) := by
  rw [atG_main_v71, keepG _ (r := main_v61) (by decide), atF_main_v61, keepF _ (r := main_v49) (by decide),
    keepF _ (r := main_v54) (by decide), atE_main_v49, atE_main_v54]; rfl

/-- The entries' weights, before the results are joined. -/
theorem weights_at (V : Valuation τ sig (Elt F)) :
    two (after opsG (after opsF (after opsE V)) (Proc.devRef .tc main_v62)) (after opsG (after opsF (after opsE V)) (Proc.devRef .tc main_v72))
      = weights (unitUsers (V (Proc.devRef .tc main_v42))) (unitItems (V (Proc.devRef .tc main_v42))) := by
  rw [atG_main_v72, keepG _ (r := main_v62) (by decide), atF_main_v62, keepF _ (r := main_v49) (by decide),
    keepF _ (r := main_v54) (by decide), atE_main_v49, atE_main_v54]; rfl

/-- The second layer's output on device `c`, from the launch memory. -/
def hiddenOf (m : (ℓ : Loc nD τ sig) → Buf (Elt F) ℓ) (c : Dev nD) : Flt F S10240x512 :=
  hidden (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- Every execution of the reference terminates; the results are the rows and items, the items and rows, and the weights
    twice, of the normalised halves of the second layer's output; the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = twice rows (cols (unitUsers (hiddenOf m c)) (unitItems (hiddenOf m c)))
      ∧ r.2.mem ((c.tc : Thread nD τ).loc main_v79) = twice (cols (unitUsers (hiddenOf m c)) (unitItems (hiddenOf m c))) rows
      ∧ r.2.mem ((c.tc : Thread nD τ).loc main_v80)
          = twice (weights (unitUsers (hiddenOf m c)) (unitItems (hiddenOf m c))) (weights (unitUsers (hiddenOf m c)) (unitItems (hiddenOf m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have hsub : (opsAll : List (HloOp τ sig (Elt F))).Forall fun op => op.bufs ⊆ tcRefs τ sig := by
    simp only [opsAll, List.forall_append]
    exact ⟨subsA, subsB, subsC, subsD, subsE, subsF, subsG, subsH⟩
  refine (θ_run defs _ _).mono (fun r h c => ?_)
    (run_seq scopedRefs_eq scopedSems_eq defs main (fun _ => opsAll) main_eq (fun _ => hsub) m ρ)
  have ka : ∀ a : Ref sig .tc, a ∉ wrA → a ∉ wrB → a ∉ wrC → a ∉ wrD → a ∉ wrE → a ∉ wrF → a ∉ wrG → a ∉ wrH →
      r.2.mem ((c.tc : Thread nD τ).loc a) = m ((c.tc : Thread nD τ).loc a) :=
    fun a h1 h2 h3 h4 h5 h6 h7 h8 => (h c a).trans (keep_all _ h1 h2 h3 h4 h5 h6 h7 h8)
  have hh := hidden_at (launchContents m c)
  refine ⟨(h c main_v78).trans ?_, (h c main_v79).trans ?_, (h c main_v80).trans ?_, ka main_arg0 ?_ ?_ ?_ ?_ ?_ ?_ ?_ ?_,
    ka main_arg1 ?_ ?_ ?_ ?_ ?_ ?_ ?_ ?_, ka main_arg2 ?_ ?_ ?_ ?_ ?_ ?_ ?_ ?_, ka main_arg3 ?_ ?_ ?_ ?_ ?_ ?_ ?_ ?_,
    ka main_arg4 ?_ ?_ ?_ ?_ ?_ ?_ ?_ ?_, ka main_arg5 ?_ ?_ ?_ ?_ ?_ ?_ ?_ ?_, ka main_arg6 ?_ ?_ ?_ ?_ ?_ ?_ ?_ ?_,
    ka main_arg7 ?_ ?_ ?_ ?_ ?_ ?_ ?_ ?_⟩
  · rw [after_all, atH_main_v78, rows_at, cols_at, hh]; rfl
  · rw [after_all, atH_main_v79, rows_at, cols_at, hh]; rfl
  · rw [after_all, atH_main_v80, weights_at, hh]; rfl
  all_goals decide

end Cert.Proof.Ref

end
-- ==== Proof.KernelRun.lean ====
/-
  The kernel program's run, with the results read as well as the arguments: the launch over the generated segments, its
  last state read at the three result buffers, which hold the contents at the last boundary.
-/
module

public import proofs.«01_k».proof.Proof.Gen.KernelIdeal.Frame

@[expose] public section

noncomputable section

namespace Cert.Proof.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel program terminates; the three results hold what the fold of the segments leaves there
    (`W12`), and the arguments are unchanged. -/
theorem run : θ_run defs (onTc (τ := τ) (main (F := F))) ⟨m, fun _ => 0, ρ⟩ (fun r => ∀ c : Dev nD,
      r.2.mem ((c.tc : Thread nD τ).loc main_v64) = W12 m ρ c (Proc.devRef .tc main_v64)
      ∧ r.2.mem ((c.tc : Thread nD τ).loc main_v65) = W12 m ρ c (Proc.devRef .tc main_v65)
      ∧ r.2.mem ((c.tc : Thread nD τ).loc main_v66) = W12 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => fun c =>
      ⟨h c _ (mem_uc main_v64 (by decide)), h c _ (mem_uc main_v65 (by decide)), h c _ (mem_uc main_v66 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.Proof.Ker

end
-- ==== Proof.KernelHost.lean ====
/-
  The kernel program's host stretches, each read once at the buffers that a region or a later stretch takes: the
  aggregation cut into four column quarters, the bias as a row, the two normalised halves, and the joined results.
-/
module

public import proofs.«01_k».proof.Proof.Gen.KernelIdeal.Frame
public import proofs.«01_k».proof.Proof.RefTerms

@[expose] public section

noncomputable section

namespace Cert.Proof.Ker

open Cert.KernelIdeal Cert.KernelIdeal.Gen Idealize.ShloMosaic Idealize.ShloMosaic.TcCoe Idealize.ShloMosaic.StableHlo
open Cert.Proof.Ref (Flt Int32 features rowIdx colIdx segSum unitUsers unitItems twice nodes)

variable {F : FTy → Type} [FloatOps F]

/-- An array's four quarters of columns, one behind the other along a new first axis. -/
def quarters (x : Flt F S10240x512) : Flt F S4x10240x128 :=
  shapeCast S4x10240x128 (shapeCast S40960x128 (transpose S4x10240x128 [1, 0, 2]
    (shapeCast S10240x4x128 x shapeCasts_S10240x512_S10240x4x128) transposes_S10240x4x128_S4x10240x128_1_0_2)
    shapeCasts_S4x10240x128_S40960x128) shapeCasts_S40960x128_S4x10240x128

/-- A bias as one row. -/
def biasRow (b : Flt F S512) : Flt F S1x512 := shapeCast S1x512 b shapeCasts_S512_S1x512

/-- The row number of every entry, over all 2048 users. -/
def allRows : Int32 F S65536 :=
  shapeCast S65536 (broadcastInDim S2048x32 ![0] bcast_S2048_S2048x32_0 (iotaInDim S2048 32 0)) shapeCasts_S2048x32_S65536

/-- A 2048 by 32 array, flattened. -/
def flat {e : EltTy} (x : (⟨S2048x32, e⟩ : BufTy).Contents (Elt F)) : (⟨S65536, e⟩ : BufTy).Contents (Elt F) :=
  shapeCast S65536 x shapeCasts_S2048x32_S65536

/-! ## The reads of single stretches -/

/-- The first stretch leaves the destination nodes. -/
theorem host0_v1 (V : Valuation τ sig (Elt F)) :
    after hostOps0 V (Proc.devRef .tc main_v1) = rowIdx (F := F) (V (Proc.devRef .tc main_arg0)) := by
  simp only [hostOps0]
  after_results_simp <;> rfl

/-- The first stretch leaves the source nodes. -/
theorem host0_v3 (V : Valuation τ sig (Elt F)) :
    after hostOps0 V (Proc.devRef .tc main_v3) = colIdx (F := F) (V (Proc.devRef .tc main_arg0)) := by
  simp only [hostOps0]
  after_results_simp <;> rfl

/-- The first stretch leaves the first aggregation's quarters. -/
theorem host0_v21 (V : Valuation τ sig (Elt F)) :
    after hostOps0 V (Proc.devRef .tc main_v21) = quarters (F := F) (segSum (rowIdx (V (Proc.devRef .tc main_arg0)))
      (colIdx (V (Proc.devRef .tc main_arg0))) (V (Proc.devRef .tc main_arg1))
      (features (V (Proc.devRef .tc main_arg2)) (V (Proc.devRef .tc main_arg3)))) := by
  simp only [hostOps0]
  after_results_simp <;> rfl

/-- The first stretch leaves the first bias as a row. -/
theorem host0_v22 (V : Valuation τ sig (Elt F)) :
    after hostOps0 V (Proc.devRef .tc main_v22) = biasRow (F := F) (V (Proc.devRef .tc main_arg5)) := by
  simp only [hostOps0]
  after_results_simp <;> rfl

/-- The second stretch leaves the second aggregation's quarters. -/
theorem host1_v40 (V : Valuation τ sig (Elt F)) :
    after hostOps1 V (Proc.devRef .tc main_v40) = quarters (F := F) (segSum (V (Proc.devRef .tc main_v1))
      (V (Proc.devRef .tc main_v3)) (V (Proc.devRef .tc main_arg1)) (V (Proc.devRef .tc main_v23))) := by
  simp only [hostOps1]
  after_results_simp <;> rfl

/-- The second stretch leaves the second bias as a row. -/
theorem host1_v41 (V : Valuation τ sig (Elt F)) :
    after hostOps1 V (Proc.devRef .tc main_v41) = biasRow (F := F) (V (Proc.devRef .tc main_arg7)) := by
  simp only [hostOps1]
  after_results_simp <;> rfl

/-- The users' rows are cut out of the second layer's output. -/
theorem host2_v43 (V : Valuation τ sig (Elt F)) :
    after hostOps2 V (Proc.devRef .tc main_v43)
      = extractStridedSlice S2048x512 ![0, 0] (V (Proc.devRef .tc main_v42)) slices_S10240x512_S2048x512_0_0 := by
  simp only [hostOps2]
  after_results_simp <;> rfl

/-- The items' rows are cut out of the second layer's output. -/
theorem host2_v44 (V : Valuation τ sig (Elt F)) :
    after hostOps2 V (Proc.devRef .tc main_v44)
      = extractStridedSlice S8192x512 ![2048, 0] (V (Proc.devRef .tc main_v42)) slices_S10240x512_S8192x512_2048_0 := by
  simp only [hostOps2]
  after_results_simp <;> rfl

/-- The norm of every row of 2048, as a column. -/
def normUsers (x : Flt F S2048x512) : Flt F S2048x1 :=
  Host.sqrt (broadcastInDim S2048x1 ![0] bcast_S2048_S2048x1_0
    (Host.reduceAdd (mulf x x) (constant S_ .f32 0x00000000#32) reducesTo_S2048x512_S2048_d1 h_S_))
/-- The norm of every row of 8192, as a column. -/
def normItems (x : Flt F S8192x512) : Flt F S8192x1 :=
  Host.sqrt (broadcastInDim S8192x1 ![0] bcast_S8192_S8192x1_0
    (Host.reduceAdd (mulf x x) (constant S_ .f32 0x00000000#32) reducesTo_S8192x512_S8192_d1 h_S_))

/-- The users' norms. -/
theorem host21_v45 (V : Valuation τ sig (Elt F)) :
    after hostOps2_1 V (Proc.devRef .tc main_v45) = normUsers (F := F) (V (Proc.devRef .tc main_v43)) := by
  simp only [hostOps2_1, TRef.binary, TRef.nullary, TRef.unary, TRef.toBuf, TRef.ofBuf, cast_eq]
  after_results_simp <;> rfl

/-- The users' rows over their norms plus the small constant. -/
theorem host22_v49 (V : Valuation τ sig (Elt F)) :
    after hostOps2_2 V (Proc.devRef .tc main_v49) = Host.divf (F := F) (V (Proc.devRef .tc main_v43))
      (broadcastInDim S2048x512 ![0, 1] bcast_S2048x1_S2048x512_0_1 (addf (V (Proc.devRef .tc main_v45))
        (broadcastInDim S2048x1 ![] bcast_S_S2048x1 (constant S_ .f32 0x322BCC77#32)))) := by
  simp only [hostOps2_2]
  after_results_simp <;> rfl

/-- The items' norms. -/
theorem host23_v50 (V : Valuation τ sig (Elt F)) :
    after hostOps2_3 V (Proc.devRef .tc main_v50) = normItems (F := F) (V (Proc.devRef .tc main_v44)) := by
  simp only [hostOps2_3, TRef.binary, TRef.nullary, TRef.unary, TRef.toBuf, TRef.ofBuf, cast_eq]
  after_results_simp <;> rfl

/-- The items' rows over their norms plus the small constant. -/
theorem host24_v54 (V : Valuation τ sig (Elt F)) :
    after hostOps2_4 V (Proc.devRef .tc main_v54) = Host.divf (F := F) (V (Proc.devRef .tc main_v44))
      (broadcastInDim S8192x512 ![0, 1] bcast_S8192x1_S8192x512_0_1 (addf (V (Proc.devRef .tc main_v50))
        (broadcastInDim S8192x1 ![] bcast_S_S8192x1 (constant S_ .f32 0x322BCC77#32)))) := by
  simp only [hostOps2_4]
  after_results_simp <;> rfl

/-- The last stretch's first result: rows, then nodes. -/
theorem host4_v64 (V : Valuation τ sig (Elt F)) :
    after hostOps4 V (Proc.devRef .tc main_v64) = twice (F := F) (e := .i32) allRows (nodes (flat (V (Proc.devRef .tc main_v56_1)))) := by
  simp only [hostOps4]
  after_results_simp <;> rfl

/-- The last stretch's second result: nodes, then rows. -/
theorem host4_v65 (V : Valuation τ sig (Elt F)) :
    after hostOps4 V (Proc.devRef .tc main_v65) = twice (F := F) (e := .i32) (nodes (flat (V (Proc.devRef .tc main_v56_1)))) allRows := by
  simp only [hostOps4]
  after_results_simp <;> rfl

/-- The last stretch's third result: the weights, twice. -/
theorem host4_v66 (V : Valuation τ sig (Elt F)) :
    after hostOps4 V (Proc.devRef .tc main_v66)
      = twice (F := F) (e := .f32) (flat (V (Proc.devRef .tc main_v56_0))) (flat (V (Proc.devRef .tc main_v56_0))) := by
  simp only [hostOps4]
  after_results_simp <;> rfl

/-! ## The reads at the boundaries of a run -/

variable (m : (ℓ : Loc nD τ sig) → Buf (Elt F) ℓ) (ρ : Dev nD → PrngReg) (c : Dev nD)

/-- The first aggregation, of a core's arguments. -/
def agg0 : Flt F S10240x512 :=
  segSum (rowIdx (m ((c.tc : Thread nD τ).loc main_arg0))) (colIdx (m ((c.tc : Thread nD τ).loc main_arg0)))
    (m ((c.tc : Thread nD τ).loc main_arg1)) (features (m ((c.tc : Thread nD τ).loc main_arg2)) (m ((c.tc : Thread nD τ).loc main_arg3)))

/-- The first layer enters with the first aggregation's quarters. -/
theorem V1_v21 : V1 m ρ c main_v21 = quarters (agg0 m c) := host0_v21 (W0 m ρ c)
/-- The first layer enters with its bias row. -/
theorem V1_v22 : V1 m ρ c main_v22 = biasRow (m ((c.tc : Thread nD τ).loc main_arg5)) := host0_v22 (W0 m ρ c)
/-- The first layer enters with its weights. -/
theorem V1_arg4 : V1 m ρ c main_arg4 = m ((c.tc : Thread nD τ).loc main_arg4) := W1_args m ρ c main_arg4 (by decide)

/-- The second layer enters with the quarters of the aggregation of the first layer's output. -/
theorem V3_v40 : V3 m ρ c main_v40 = quarters (segSum (rowIdx (m ((c.tc : Thread nD τ).loc main_arg0)))
    (colIdx (m ((c.tc : Thread nD τ).loc main_arg0))) (m ((c.tc : Thread nD τ).loc main_arg1)) (V2 m ρ c main_v23)) := by
  refine (host1_v40 (W2 m ρ c)).trans ?_
  rw [W2_of m ρ c main_v1 (by decide), W2_of m ρ c main_v3 (by decide), W2_args m ρ c main_arg1 (by decide)]
  rw [show W1 m ρ c (Proc.devRef .tc main_v1) = _ from host0_v1 (W0 m ρ c),
    show W1 m ρ c (Proc.devRef .tc main_v3) = _ from host0_v3 (W0 m ρ c)]
/-- The second layer enters with its bias row. -/
theorem V3_v41 : V3 m ρ c main_v41 = biasRow (m ((c.tc : Thread nD τ).loc main_arg7)) := by
  refine (host1_v41 (W2 m ρ c)).trans ?_
  rw [W2_args m ρ c main_arg7 (by decide)]
/-- The second layer enters with its weights. -/
theorem V3_arg6 : V3 m ρ c main_arg6 = m ((c.tc : Thread nD τ).loc main_arg6) := W3_args m ρ c main_arg6 (by decide)

/-- The similarities enter with the normalised users. -/
theorem V9_v49 : V9 m ρ c main_v49 = unitUsers (V4 m ρ c main_v42) := by
  refine (W9_of m ρ c main_v49 (by decide)).trans ((W8_of m ρ c main_v49 (by decide)).trans ?_)
  refine (host22_v49 (W6 m ρ c)).trans ?_
  rw [W6_of m ρ c main_v43 (by decide), show W6 m ρ c (Proc.devRef .tc main_v45) = _ from host21_v45 (W5 m ρ c),
    show W5 m ρ c (Proc.devRef .tc main_v43) = _ from host2_v43 (W4 m ρ c)]
  rfl

/-- The similarities enter with the normalised items. -/
theorem V9_v54 : V9 m ρ c main_v54 = unitItems (V4 m ρ c main_v42) := by
  refine (host24_v54 (W8 m ρ c)).trans ?_
  rw [W8_of m ρ c main_v44 (by decide), show W8 m ρ c (Proc.devRef .tc main_v50) = _ from host23_v50 (W7 m ρ c),
    W7_of m ρ c main_v44 (by decide), W6_of m ρ c main_v44 (by decide),
    show W5 m ρ c (Proc.devRef .tc main_v44) = _ from host2_v44 (W4 m ρ c)]
  rfl

end Cert.Proof.Ker

end
-- ==== Proof.LayerMath.lean ====
/-
  A dense layer over the extended reals, read at an index on both sides: one block of the kernel, whose four column
  quarters are joined before the product, and the reference's whole array. Cutting an array into its quarters and joining
  a block of them gives the block of the array.
-/
module

public import proofs.«01_k».proof.Proof.KernelHost
public import Idealize.ShloMosaic.Lib.Pipeline.Value
public import Idealize.ShloMosaic.Lib.MatmulPlain
public import Idealize.ShloMosaic.Lib.StackMember
public import Idealize.ShloMosaic.Lib.ValueIdx
public import Idealize.ShloMosaic.Lib.IdealHost

@[expose] public section

noncomputable section

namespace Cert.Proof.Ker

open Cert.KernelIdeal Cert.KernelIdeal.Gen Idealize.ShloMosaic Idealize.ShloMosaic.TcCoe Idealize.ShloMosaic.ValueIdx
open Cert.Proof.Ref (Flt layer clampZero)
open scoped BigOperators

/-- Row `r`, column `k` of an array sits in quarter `k / 128` at row `r`, column `k % 128`. -/
theorem quarters_apply {F : FTy → Type} [FloatOps F] (x : Flt F S10240x512) (q : Fin 4) (r : Fin 10240) (l : Fin 128)
    (k : Fin 512) (hk : k.val = q.val * 128 + l.val) : quarters x (ix3 q r l) = x (ix2 r k) := by
  unfold quarters
  rw [shapeCast_shapeCast]
  refine (transpose_apply _ _ _ (ix3 q r l) (ix3 r q l) fun b => ?_).trans ?_
  · match b with
    | ⟨0, _⟩ => rfl
    | ⟨1, _⟩ => rfl
    | ⟨2, _⟩ => rfl
  · refine shapeCast_apply _ _ _ (ix2 r k) ?_
    rw [Shape.rowMajor_val_two, Shape.rowMajor_val_three]
    show r.val * 512 + k.val = (r.val * 4 + q.val) * 128 + l.val
    omega

/-- A bias's row, at a column. -/
theorem biasRow_apply {F : FTy → Type} [FloatOps F] (b : Flt F S512) (k : Fin 512) : biasRow b (ix2 0 k) = b (ix1 k) := by
  unfold biasRow
  refine shapeCast_apply _ _ _ (ix1 k) ?_
  rw [Shape.rowMajor_val_one, Shape.rowMajor_val_two]
  show k.val = 0 * 512 + k.val
  omega

/-- One of the four slices of a block, its unit axis dropped. -/
theorem slice_quarter {α : Type} (x : S4x256x128.Idx → α) (q : Fin 4) (off : Fin 3 → Nat) (hoff : off = ![q.val, 0, 0])
    (inb : ∀ a, off a + S1x256x128.size a ≤ S4x256x128.size a) (h : S1x256x128.ShapeCasts S256x128) :
    shapeCast S256x128 (fun i : S1x256x128.Idx => x ((Rect.unit (s := S4x256x128) off S1x256x128.size inb).emb i)) h
      = fun j => x (ix3 q (j 0) (j 1)) := by
  subst hoff
  funext j
  refine (shapeCast_dropUnit_apply ![256, 128] _ h j).trans (congrArg x ?_)
  funext a
  refine Fin.ext ?_
  rw [Rect.emb_apply]
  match a with
  | ⟨0, _⟩ => rfl
  | ⟨1, _⟩ => show 0 + 1 * (j 0).val = (j 0).val; omega
  | ⟨2, _⟩ => show 0 + 1 * (j 1).val = (j 1).val; omega

/-- The four slices of a block side by side: column `c` comes from slice `c / 128`. -/
theorem joined_apply {α : Type} (x : S4x256x128.Idx → α) (h : Shape.Concatenates [S256x128, S256x128, S256x128, S256x128] S256x512 1)
    (r : Fin 256) (c : Fin 512) (q : Fin 4) (l : Fin 128) (hc : c.val = q.val * 128 + l.val) :
    concatenate S256x512 1 [⟨S256x128, fun j => x (ix3 0 (j 0) (j 1))⟩, ⟨S256x128, fun j => x (ix3 1 (j 0) (j 1))⟩,
      ⟨S256x128, fun j => x (ix3 2 (j 0) (j 1))⟩, ⟨S256x128, fun j => x (ix3 3 (j 0) (j 1))⟩] h (ix2 r c) = x (ix3 q r l) := by
  refine concatenate_ofFn_apply (t := S256x512) (s₁ := S256x128) 1 (fun q : Fin 4 => fun j => x (ix3 q (j 0) (j 1)))
    h rfl 128 rfl (ix2 r c) q ?_ (ix2 r l) ?_ ?_
  · show c.val / 128 = q.val
    omega
  · show l.val = c.val % 128
    omega
  · intro b hb
    match b with
    | ⟨0, _⟩ => rfl
    | ⟨1, _⟩ => exact absurd rfl hb

/-- A dense layer without its clamp, as a sum: row `r` times row `c` of the weights, plus the bias. -/
def layerSum (x : Flt Ideal S10240x512) (w : Flt Ideal S512x512) (b : Flt Ideal S512) (r : Fin 10240) (c : Fin 512) : EReal :=
  (∑ k : Fin 512, x (ix2 r k) * w (ix2 c k)) + b (ix1 c)

/-- The reference's layer is that sum. -/
theorem layer_apply (x : Flt Ideal S10240x512) (w : Flt Ideal S512x512) (b : Flt Ideal S512) (r : Fin 10240) (c : Fin 512) :
    layer x w b (ix2 r c) = layerSum x w b r c := by
  unfold layer layerSum
  refine congrArg₂ (· + ·) ?_ ?_
  · refine (StackMember.dotGeneral_plain_apply (m := 10240) (k := 512) (n := 512) none x _ r c).trans (Finset.sum_congr rfl fun k _ => ?_)
    refine congrArg (x (ix2 r k) * ·) (transpose_apply _ w _ (ix2 k c) (ix2 c k) fun a => ?_)
    match a with
    | ⟨0, _⟩ => rfl
    | ⟨1, _⟩ => rfl
  · refine (broadcastInDim_apply _ _ _ (ix2 r c) (ix2 0 c) fun a => ?_).trans
      (broadcastInDim_apply _ _ _ (ix2 0 c) (ix1 c) fun a => ?_)
    · match a with
      | ⟨0, _⟩ => rfl
      | ⟨1, _⟩ => rfl
    · match a with
      | ⟨0, _⟩ => rfl

/-- The reference's clamp at an index. -/
theorem clampZero_apply (x : Flt Ideal S10240x512) (i : S10240x512.Idx) : clampZero x i = max (x i) 0 := by
  unfold clampZero
  rw [maximumf_apply, broadcastInDim_scalar_apply, constant_apply, Ideal.ofBits_zero_f32]

/-- One block of a layer without its clamp: the joined quarters times the weights, plus the bias row. -/
def blockSum (x : FVec Ideal S4x256x128 .f32) (w : FVec Ideal S512x512 .f32) (b : FVec Ideal S1x512 .f32) (r : Fin 256) (c : Fin 512) : EReal :=
  (∑ k : Fin 512, x (ix3 ⟨k.val / 128, by omega⟩ r ⟨k.val % 128, by omega⟩) * w (ix2 c k)) + b (ix2 0 c)

/-- The unclamped kernel's payload is that sum. -/
theorem k1_pay1_apply (x : FVec Ideal S4x256x128 .f32) (w : FVec Ideal S512x512 .f32) (b : FVec Ideal S1x512 .f32) (r : Fin 256) (c : Fin 512) :
    k1_pay1 (F := Ideal) (View.ld x r0_0) (View.ld x r0_1) (View.ld x r0_2) (View.ld x r0_3) w b (ix2 r c) = blockSum x w b r c := by
  unfold k1_pay1 blockSum
  rw [shapeCast_self b]
  refine congrArg₂ (· + ·) ?_ ?_
  · refine (Ideal.matmul_transposedRhs_apply (M := 256) (K := 512) (N := 512) none _ w (constant S256x512 .f32 0x00000000#32) r c).trans ?_
    rw [constant_apply, Ideal.ofBits_zero_f32, zero_add]
    refine Finset.sum_congr rfl fun k _ => congrArg (· * w (ix2 c k)) ?_
    rw [show shapeCast S256x128 (View.ld (Val := Elt Ideal) (e' := .f32) x r0_0) shapeCasts_S1x256x128_S256x128 = _ from slice_quarter x 0 ![0, 0, 0] rfl _ _,
      show shapeCast S256x128 (View.ld (Val := Elt Ideal) (e' := .f32) x r0_1) shapeCasts_S1x256x128_S256x128 = _ from slice_quarter x 1 ![1, 0, 0] rfl _ _,
      show shapeCast S256x128 (View.ld (Val := Elt Ideal) (e' := .f32) x r0_2) shapeCasts_S1x256x128_S256x128 = _ from slice_quarter x 2 ![2, 0, 0] rfl _ _,
      show shapeCast S256x128 (View.ld (Val := Elt Ideal) (e' := .f32) x r0_3) shapeCasts_S1x256x128_S256x128 = _ from slice_quarter x 3 ![3, 0, 0] rfl _ _]
    exact joined_apply x _ r k _ _ (by show k.val = k.val / 128 * 128 + k.val % 128; omega)
  · refine broadcastTo_apply b _ (ix2 r c) (ix2 0 c) fun a => ?_
    match a with
    | ⟨0, _⟩ => rfl
    | ⟨1, _⟩ => rfl

/-- The clamped kernel's payload is the unclamped one's, clamped. -/
theorem k0_pay1_apply (x : FVec Ideal S4x256x128 .f32) (w : FVec Ideal S512x512 .f32) (b : FVec Ideal S1x512 .f32) (r : Fin 256) (c : Fin 512) :
    k0_pay1 (F := Ideal) (View.ld x r0_0) (View.ld x r0_1) (View.ld x r0_2) (View.ld x r0_3) w b (ix2 r c) = max (blockSum x w b r c) 0 := by
  rw [← k1_pay1_apply x w b r c]
  show max _ (Ideal.ofBits .f32 0x00000000#32) = _
  rw [Ideal.ofBits_zero_f32]
  rfl

end Cert.Proof.Ker

end
-- ==== Proof.LayerValue.lean ====
/-
  The two dense-layer kernels' results: on a grid of 40 points, each writing 256 rows, the result array ends holding the
  reference's layer of the aggregation whose quarters the kernel reads — clamped at zero for the first, not for the second.
-/
module

public import proofs.«01_k».proof.Proof.LayerMath
public import proofs.«01_k».proof.Proof.Gen.KernelIdeal.Frame
public import Idealize.ShloMosaic.Lib.Pipeline.Value

@[expose] public section

noncomputable section

namespace Cert.Proof.Ker

open Cert.KernelIdeal Cert.KernelIdeal.Gen Idealize.ShloMosaic Idealize.ShloMosaic.TcCoe Idealize.ShloMosaic.ValueIdx
open Idealize.ShloMosaic.Pipeline (Dat)
open Cert.Proof.Ref (Flt layer clampZero)
open scoped BigOperators

variable (V : (c : Dev nD) → (b : Ref sig .tc) → Buf (Elt Ideal) ((c : Thread nD τ).loc b)) (c : Dev nD)

/-- A two-axis offset that is zero on both axes. -/
theorem zeros2 : (![0, 0] : Fin 2 → Nat) = fun _ => 0 := funext fun a => by fin_cases a <;> rfl

/-- A block's sum is the array's: the block's quarters are the array's quarters at the block's rows. -/
theorem blockSum_eq (x : Flt Ideal S4x256x128) (w w' : Flt Ideal S512x512) (b' : Flt Ideal S1x512) (agg : Flt Ideal S10240x512)
    (b : Flt Ideal S512) (r : Fin 256) (R : Fin 10240) (j : Fin 512)
    (hx : ∀ (q : Fin 4) (l : Fin 128), x (ix3 q r l) = quarters agg (ix3 q R l)) (hw : ∀ k, w' (ix2 j k) = w (ix2 j k))
    (hb : b' (ix2 0 j) = biasRow b (ix2 0 j)) : blockSum x w' b' r j = layerSum agg w b R j := by
  unfold blockSum layerSum
  refine congrArg₂ (· + ·) (Finset.sum_congr rfl fun k _ => congrArg₂ (· * ·) ?_ (hw k)) (hb.trans (biasRow_apply b j))
  rw [hx]
  exact quarters_apply agg _ R _ k (by show k.val = k.val / 128 * 128 + k.val % 128; omega)

/-! ## The first layer -/

/-- The block numbers of the four windows at a point. -/
theorem idx0 : ∀ t : Fin cfg0.N,
    (win0_0.index t 0 = 0 ∧ win0_0.index t 1 = t.val ∧ win0_0.index t 2 = 0) ∧ (win0_1.index t 0 = 0 ∧ win0_1.index t 1 = 0)
      ∧ (win0_2.index t 0 = 0 ∧ win0_2.index t 1 = 0) ∧ (win0_3.index t 0 = t.val ∧ win0_3.index t 1 = 0) :=
  (by decide +kernel : ∀ t : Fin grid0.N,
    (win0_0.index t 0 = 0 ∧ win0_0.index t 1 = t.val ∧ win0_0.index t 2 = 0) ∧ (win0_1.index t 0 = 0 ∧ win0_1.index t 1 = 0)
      ∧ (win0_2.index t 0 = 0 ∧ win0_2.index t 1 = 0) ∧ (win0_3.index t 0 = t.val ∧ win0_3.index t 1 = 0))

/-- A point's block of the quarters, at an index: the quarters at the block's rows. -/
theorem lin0_agg (t : Fin cfg0.N) (q : Fin 4) (r : Fin 256) (l : Fin 128) (R : Fin 10240) (h : R.val = t.val * 256 + r.val) :
    iblk0 V c 0 t (ix3 q r l) = V c main_v21 (ix3 q R l) := by
  obtain ⟨⟨a0, a1, a2⟩, -⟩ := idx0 t
  refine congrArg (V c main_v21) (show ((cfg0.win 0).blk t).view.emb (ix3 q r l) = ix3 q R l from funext fun a => Fin.ext ?_)
  match a with
  | ⟨0, _⟩ =>
    refine (win0_0.rect_emb_val t (ix3 q r l) 0).trans ?_
    rw [a0, Nat.zero_mul, Nat.zero_add]; rfl
  | ⟨1, _⟩ =>
    refine (win0_0.rect_emb_val t (ix3 q r l) 1).trans ?_
    rw [a1]; exact h.symm
  | ⟨2, _⟩ =>
    refine (win0_0.rect_emb_val t (ix3 q r l) 2).trans ?_
    rw [a2, Nat.zero_mul, Nat.zero_add]; rfl

/-- Every point's block of the weights is the weights. -/
theorem lin0_w (t : Fin cfg0.N) (j k : Fin 512) : iblk0 V c 1 t (ix2 j k) = V c main_arg4 (ix2 j k) := by
  obtain ⟨-, ⟨a0, a1⟩, -⟩ := idx0 t
  refine congrArg (V c main_arg4) (show ((cfg0.win 1).blk t).view.emb (ix2 j k) = ix2 j k from Shape.idx_ext₂ ?_ ?_)
  · refine (win0_1.rect_emb_val t (ix2 j k) 0).trans ?_
    rw [a0, Nat.zero_mul, Nat.zero_add]; rfl
  · refine (win0_1.rect_emb_val t (ix2 j k) 1).trans ?_
    rw [a1, Nat.zero_mul, Nat.zero_add]; rfl

/-- Every point's block of the bias row is the bias row. -/
theorem lin0_b (t : Fin cfg0.N) (j : Fin 512) : iblk0 V c 2 t (ix2 0 j) = V c main_v22 (ix2 0 j) := by
  obtain ⟨-, -, ⟨a0, a1⟩, -⟩ := idx0 t
  refine congrArg (V c main_v22) (show ((cfg0.win 2).blk t).view.emb (ix2 0 j) = ix2 0 j from Shape.idx_ext₂ ?_ ?_)
  · refine (win0_2.rect_emb_val t (ix2 0 j) 0).trans ?_
    rw [a0, Nat.zero_mul, Nat.zero_add]; rfl
  · refine (win0_2.rect_emb_val t (ix2 0 j) 1).trans ?_
    rw [a1, Nat.zero_mul, Nat.zero_add]; rfl

/-- What a point writes back is its block of the whole layer. -/
theorem lin0_flushed (agg : Flt Ideal S10240x512) (b : Flt Ideal S512) (hx : V c main_v21 = quarters agg) (hb : V c main_v22 = biasRow b)
    (t : Fin cfg0.N) :
    (dat0 V c).flushed 3 t = ((cfg0.win 3).blk t).view.read (Elt Ideal) (clampZero (layer agg (V c main_arg4) b)) := by
  show (cfg0.win 3).cut (grid0.coords t) ((dat0 V c).after 3 t) = _
  rw [after0_3]
  unfold out0_3
  rw [View.canon_unit_zero zeros2, View.ld_unit_zero zeros2, View.ld_unit_zero zeros2]
  funext y
  obtain ⟨-, -, -, ⟨c0, c1⟩⟩ := idx0 t
  have hN : cfg0.N = 40 := N_0
  have ht := t.isLt
  have hr : (y 0).val < 256 := (y 0).isLt
  have hj : (y 1).val < 512 := (y 1).isLt
  have hR : t.val * 256 + (y 0).val < 10240 := by omega
  have ey : (cfg0.win 3).xinj (grid0.coords t) y = ix2 (⟨(y 0).val, hr⟩ : Fin 256) (⟨(y 1).val, hj⟩ : Fin 512) := Shape.idx_ext₂ rfl rfl
  have eG : ((cfg0.win 3).blk t).view.emb y = ix2 (⟨t.val * 256 + (y 0).val, hR⟩ : Fin 10240) (⟨(y 1).val, hj⟩ : Fin 512) := by
    refine Shape.idx_ext₂ ?_ ?_
    · refine (win0_3.rect_emb_val t y 0).trans ?_
      rw [c0]; rfl
    · refine (win0_3.rect_emb_val t y 1).trans ?_
      rw [c1, Nat.zero_mul, Nat.zero_add]
  show k0_pay1 (F := Ideal) _ _ _ _ _ _ ((cfg0.win 3).xinj (grid0.coords t) y)
    = (clampZero (layer agg (V c main_arg4) b)) (((cfg0.win 3).blk t).view.emb y)
  rw [ey, eG]
  refine (k0_pay1_apply (iblk0 V c 0 t) (iblk0 V c 1 t) (iblk0 V c 2 t) _ _).trans ?_
  rw [clampZero_apply, layer_apply]
  refine congrArg (max · 0) (blockSum_eq _ _ _ _ agg b _ _ _ (fun q l => ?_) (fun k => lin0_w V c t _ k) ?_)
  · exact (lin0_agg V c t q _ l _ rfl).trans (congrFun hx _)
  · exact (lin0_b V c t _).trans (congrFun hb _)

/-- The blocks cover the result array. -/
theorem lin0_cover (i : S10240x512.Idx) :
    ∃ t : Fin cfg0.N, (cfg0.win 3).flush t = true ∧ i ∈ ((cfg0.win 3).blk t).view.set := by
  have h0 : (i 0 : Nat) < 10240 := (i 0).isLt
  have h1 : (i 1 : Nat) < 512 := (i 1).isLt
  have hN : cfg0.N = 40 := N_0
  have ht : (i 0 : Nat) / 256 < cfg0.N := by omega
  refine ⟨⟨_, ht⟩, flush0_3 _, ?_⟩
  show i ∈ ((View.whole main_v23).slice (win0_3.rect ⟨_, ht⟩)).set
  rw [View.set_slice_whole, Rect.mem_set_unit]
  obtain ⟨-, -, -, c0, c1⟩ := idx0 ⟨_, ht⟩
  intro a
  match a with
  | ⟨0, _⟩ =>
    show win0_3.index _ 0 * 256 ≤ (i 0 : Nat) ∧ (i 0 : Nat) < win0_3.index _ 0 * 256 + 256
    rw [c0]; dsimp only; omega
  | ⟨1, _⟩ =>
    show win0_3.index _ 1 * 512 ≤ (i 1 : Nat) ∧ (i 1 : Nat) < win0_3.index _ 1 * 512 + 512
    rw [c1]; omega

/-- The result array ends holding the whole layer. -/
theorem lin0_final (agg : Flt Ideal S10240x512) (b : Flt Ideal S512) (hx : V c main_v21 = quarters agg) (hb : V c main_v22 = biasRow b) :
    (dat0 V c).arrAt 3 cfg0.N = clampZero (layer agg (V c main_arg4) b) :=
  (dat0 V c).arrAt_eq_of_cover 3 _ (fun t _ => lin0_flushed V c agg b hx hb t) lin0_cover

/-! ## The second layer -/

/-- The block numbers of the four windows at a point. -/
theorem idx1 : ∀ t : Fin cfg1.N,
    (win1_0.index t 0 = 0 ∧ win1_0.index t 1 = t.val ∧ win1_0.index t 2 = 0) ∧ (win1_1.index t 0 = 0 ∧ win1_1.index t 1 = 0)
      ∧ (win1_2.index t 0 = 0 ∧ win1_2.index t 1 = 0) ∧ (win1_3.index t 0 = t.val ∧ win1_3.index t 1 = 0) :=
  (by decide +kernel : ∀ t : Fin grid1.N,
    (win1_0.index t 0 = 0 ∧ win1_0.index t 1 = t.val ∧ win1_0.index t 2 = 0) ∧ (win1_1.index t 0 = 0 ∧ win1_1.index t 1 = 0)
      ∧ (win1_2.index t 0 = 0 ∧ win1_2.index t 1 = 0) ∧ (win1_3.index t 0 = t.val ∧ win1_3.index t 1 = 0))

/-- A point's block of the quarters, at an index: the quarters at the block's rows. -/
theorem lin1_agg (t : Fin cfg1.N) (q : Fin 4) (r : Fin 256) (l : Fin 128) (R : Fin 10240) (h : R.val = t.val * 256 + r.val) :
    iblk1 V c 0 t (ix3 q r l) = V c main_v40 (ix3 q R l) := by
  obtain ⟨⟨a0, a1, a2⟩, -⟩ := idx1 t
  refine congrArg (V c main_v40) (show ((cfg1.win 0).blk t).view.emb (ix3 q r l) = ix3 q R l from funext fun a => Fin.ext ?_)
  match a with
  | ⟨0, _⟩ =>
    refine (win1_0.rect_emb_val t (ix3 q r l) 0).trans ?_
    rw [a0, Nat.zero_mul, Nat.zero_add]; rfl
  | ⟨1, _⟩ =>
    refine (win1_0.rect_emb_val t (ix3 q r l) 1).trans ?_
    rw [a1]; exact h.symm
  | ⟨2, _⟩ =>
    refine (win1_0.rect_emb_val t (ix3 q r l) 2).trans ?_
    rw [a2, Nat.zero_mul, Nat.zero_add]; rfl

/-- Every point's block of the weights is the weights. -/
theorem lin1_w (t : Fin cfg1.N) (j k : Fin 512) : iblk1 V c 1 t (ix2 j k) = V c main_arg6 (ix2 j k) := by
  obtain ⟨-, ⟨a0, a1⟩, -⟩ := idx1 t
  refine congrArg (V c main_arg6) (show ((cfg1.win 1).blk t).view.emb (ix2 j k) = ix2 j k from Shape.idx_ext₂ ?_ ?_)
  · refine (win1_1.rect_emb_val t (ix2 j k) 0).trans ?_
    rw [a0, Nat.zero_mul, Nat.zero_add]; rfl
  · refine (win1_1.rect_emb_val t (ix2 j k) 1).trans ?_
    rw [a1, Nat.zero_mul, Nat.zero_add]; rfl

/-- Every point's block of the bias row is the bias row. -/
theorem lin1_b (t : Fin cfg1.N) (j : Fin 512) : iblk1 V c 2 t (ix2 0 j) = V c main_v41 (ix2 0 j) := by
  obtain ⟨-, -, ⟨a0, a1⟩, -⟩ := idx1 t
  refine congrArg (V c main_v41) (show ((cfg1.win 2).blk t).view.emb (ix2 0 j) = ix2 0 j from Shape.idx_ext₂ ?_ ?_)
  · refine (win1_2.rect_emb_val t (ix2 0 j) 0).trans ?_
    rw [a0, Nat.zero_mul, Nat.zero_add]; rfl
  · refine (win1_2.rect_emb_val t (ix2 0 j) 1).trans ?_
    rw [a1, Nat.zero_mul, Nat.zero_add]; rfl

/-- What a point writes back is its block of the whole layer. -/
theorem lin1_flushed (agg : Flt Ideal S10240x512) (b : Flt Ideal S512) (hx : V c main_v40 = quarters agg) (hb : V c main_v41 = biasRow b)
    (t : Fin cfg1.N) :
    (dat1 V c).flushed 3 t = ((cfg1.win 3).blk t).view.read (Elt Ideal) (layer agg (V c main_arg6) b) := by
  show (cfg1.win 3).cut (grid1.coords t) ((dat1 V c).after 3 t) = _
  rw [after1_3]
  unfold out1_3
  rw [View.canon_unit_zero zeros2, View.ld_unit_zero zeros2, View.ld_unit_zero zeros2]
  funext y
  obtain ⟨-, -, -, ⟨c0, c1⟩⟩ := idx1 t
  have hN : cfg1.N = 40 := N_1
  have ht := t.isLt
  have hr : (y 0).val < 256 := (y 0).isLt
  have hj : (y 1).val < 512 := (y 1).isLt
  have hR : t.val * 256 + (y 0).val < 10240 := by omega
  have ey : (cfg1.win 3).xinj (grid1.coords t) y = ix2 (⟨(y 0).val, hr⟩ : Fin 256) (⟨(y 1).val, hj⟩ : Fin 512) := Shape.idx_ext₂ rfl rfl
  have eG : ((cfg1.win 3).blk t).view.emb y = ix2 (⟨t.val * 256 + (y 0).val, hR⟩ : Fin 10240) (⟨(y 1).val, hj⟩ : Fin 512) := by
    refine Shape.idx_ext₂ ?_ ?_
    · refine (win1_3.rect_emb_val t y 0).trans ?_
      rw [c0]; rfl
    · refine (win1_3.rect_emb_val t y 1).trans ?_
      rw [c1, Nat.zero_mul, Nat.zero_add]
  show k1_pay1 (F := Ideal) _ _ _ _ _ _ ((cfg1.win 3).xinj (grid1.coords t) y)
    = (layer agg (V c main_arg6) b) (((cfg1.win 3).blk t).view.emb y)
  rw [ey, eG]
  refine (k1_pay1_apply (iblk1 V c 0 t) (iblk1 V c 1 t) (iblk1 V c 2 t) _ _).trans ?_
  rw [layer_apply]
  refine (blockSum_eq _ _ _ _ agg b _ _ _ (fun q l => ?_) (fun k => lin1_w V c t _ k) ?_)
  · exact (lin1_agg V c t q _ l _ rfl).trans (congrFun hx _)
  · exact (lin1_b V c t _).trans (congrFun hb _)

/-- The blocks cover the result array. -/
theorem lin1_cover (i : S10240x512.Idx) :
    ∃ t : Fin cfg1.N, (cfg1.win 3).flush t = true ∧ i ∈ ((cfg1.win 3).blk t).view.set := by
  have h0 : (i 0 : Nat) < 10240 := (i 0).isLt
  have h1 : (i 1 : Nat) < 512 := (i 1).isLt
  have hN : cfg1.N = 40 := N_1
  have ht : (i 0 : Nat) / 256 < cfg1.N := by omega
  refine ⟨⟨_, ht⟩, flush1_3 _, ?_⟩
  show i ∈ ((View.whole main_v42).slice (win1_3.rect ⟨_, ht⟩)).set
  rw [View.set_slice_whole, Rect.mem_set_unit]
  obtain ⟨-, -, -, c0, c1⟩ := idx1 ⟨_, ht⟩
  intro a
  match a with
  | ⟨0, _⟩ =>
    show win1_3.index _ 0 * 256 ≤ (i 0 : Nat) ∧ (i 0 : Nat) < win1_3.index _ 0 * 256 + 256
    rw [c0]; dsimp only; omega
  | ⟨1, _⟩ =>
    show win1_3.index _ 1 * 512 ≤ (i 1 : Nat) ∧ (i 1 : Nat) < win1_3.index _ 1 * 512 + 512
    rw [c1]; omega

/-- The result array ends holding the whole layer. -/
theorem lin1_final (agg : Flt Ideal S10240x512) (b : Flt Ideal S512) (hx : V c main_v40 = quarters agg) (hb : V c main_v41 = biasRow b) :
    (dat1 V c).arrAt 3 cfg1.N = layer agg (V c main_arg6) b :=
  (dat1 V c).arrAt_eq_of_cover 3 _ (fun t _ => lin1_flushed V c agg b hx hb t) lin1_cover

end Cert.Proof.Ker

end
-- ==== Proof.TopkRounds.lean ====
/-
  The top-k kernel's rounds. A round finds every row's greatest entry, the least column that attains it, and writes a
  large negative number there; the kernel's 32 unrolled rounds are 32 iterates of this one function, so its two result
  blocks hold, in column `n`, what round `n` finds.
-/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.Proof.Ker

open Cert.KernelIdeal Cert.KernelIdeal.Gen Idealize.ShloMosaic Idealize.ShloMosaic.TcCoe Idealize.ShloMosaic.ValueIdx

variable {F : FTy → Type} [FloatOps F]

/-- Every entry's column. -/
def lanes : IVec S64x8192 32 := iota .tc S64x8192 32 [1] iota_S64x8192_d1_w32

/-- Every row's greatest entry. -/
def best (s : FVec F S64x8192 .f32) : FVec F S64 .f32 :=
  multiReduction .maximumf [1] S64 s 0xFF800000#32 reduces_S64x8192_S64 (.inl rfl) rfl

/-- Which entries equal their row's greatest. -/
def hits (s : FVec F S64x8192 .f32) : IVec S64x8192 1 :=
  cmpf .oeq s (broadcastTo S64x8192 (shapeCast S64x1 (best s) shapeCasts_S64_S64x1) broadcasts_S64x1_S64x8192)

/-- Every row's least column that attains the greatest entry. -/
def place (s : FVec F S64x8192 .f32) : IVec S64 32 :=
  multiReductionI .minsi [1] S64 (select (hits s) lanes (broadcast S64x8192 8192#32)) 2147483647#32 reduces_S64x8192_S64 rfl

/-- The array with that entry of every row replaced by a large negative number. -/
def next (s : FVec F S64x8192 .f32) : FVec F S64x8192 .f32 :=
  select (cmpi .eq lanes (broadcastTo S64x8192 (shapeCast S64x1 (place s) shapeCasts_S64_S64x1) broadcasts_S64x1_S64x8192))
    (broadcast S64x8192 (Scalar.ofBits .f32 0xFF61B1E6#32 : F .f32)) s

/-- The array as round `n` finds it. -/
def st : Nat → FVec F S64x8192 .f32 → FVec F S64x8192 .f32
  | 0, s => s
  | n + 1, s => next (st n s)

/-- A row's value as a column of one. -/
abbrev colF (v : FVec F S64 .f32) : FVec F S64x1 .f32 := shapeCast S64x1 v shapeCasts_S64_S64x1
/-- A row's index as a column of one. -/
abbrev colI (v : IVec S64 32) : IVec S64x1 32 := shapeCast S64x1 v shapeCasts_S64_S64x1

variable (s : FVec F S64x8192 .f32)

/-- Rounds compose: `k` more after the first `m`. -/
theorem st_add (m k : Nat) : st k (st m s) = st (m + k) s := by
  induction k with
  | zero => rfl
  | succ k ih => exact congrArg next ih

/-- One more round. -/
theorem round_of {a : FVec F S64x8192 .f32} (k : Nat) (y : FVec F S64x8192 .f32) (h : a = next y) (hy : y = st k s) : a = st (k + 1) s := by
  rw [h, hy]; rfl

/-- The column of values a round finds. -/
theorem val_of {c : FVec F S64x1 .f32} (k : Nat) (y : FVec F S64x8192 .f32) (h : c = colF (best y)) (hy : y = st k s) :
    c = colF (best (st k s)) := by rw [h, hy]

/-- The column of indices a round finds. -/
theorem idx_of {c : IVec S64x1 32} (k : Nat) (y : FVec F S64x8192 .f32) (h : c = colI (place y)) (hy : y = st k s) :
    c = colI (place (st k s)) := by rw [h, hy]

/-! ## The rounds, each from the last array the kernel binds by name -/

/-- The first round works on the block itself. -/
theorem run_0 : k3_pay7 s = s := shapeCast_self _ _

/-- What is left after a round, from where its run of rounds starts. -/
theorem run_1 : k3_pay12 s = st 1 s :=
  round_of s 0 (k3_pay7 s) rfl (run_0 s)

/-- What is left after a round, from where its run of rounds starts. -/
theorem run_2 : k3_pay17 s = st 2 s :=
  round_of s 1 (k3_pay12 s) rfl (run_1 s)

/-- What is left after a round, from where its run of rounds starts. -/
theorem run_3 : k3_pay22 s = st 3 s :=
  round_of s 2 (k3_pay17 s) rfl (run_2 s)

/-- A round's column of greatest entries. -/
theorem val_0 : k3_pay10 s = colF (best (st 0 s)) :=
  val_of s 0 (k3_pay7 s) rfl (run_0 s)

/-- A round's column of positions. -/
theorem idx_0 : k3_pay11 s = colI (place (st 0 s)) :=
  idx_of s 0 (k3_pay7 s) rfl (run_0 s)

/-- A round's column of greatest entries. -/
theorem val_1 : k3_pay15 s = colF (best (st 1 s)) :=
  val_of s 1 (k3_pay12 s) rfl (run_1 s)

/-- A round's column of positions. -/
theorem idx_1 : k3_pay16 s = colI (place (st 1 s)) :=
  idx_of s 1 (k3_pay12 s) rfl (run_1 s)

/-- A round's column of greatest entries. -/
theorem val_2 : k3_pay20 s = colF (best (st 2 s)) :=
  val_of s 2 (k3_pay17 s) rfl (run_2 s)

/-- A round's column of positions. -/
theorem idx_2 : k3_pay21 s = colI (place (st 2 s)) :=
  idx_of s 2 (k3_pay17 s) rfl (run_2 s)

/-- What is left after a round, from where its run of rounds starts. -/
theorem run_4 : k3_pay27 lanes s = st 1 s :=
  round_of s 0 (s) rfl rfl

/-- What is left after a round, from where its run of rounds starts. -/
theorem run_5 : k3_pay32 lanes s = st 2 s :=
  round_of s 1 (k3_pay27 lanes s) rfl (run_4 s)

/-- What is left after a round, from where its run of rounds starts. -/
theorem run_6 : k3_pay37 lanes s = st 3 s :=
  round_of s 2 (k3_pay32 lanes s) rfl (run_5 s)

/-- A round's column of greatest entries. -/
theorem val_3 : k3_pay25 s = colF (best (st 0 s)) :=
  val_of s 0 (s) rfl rfl

/-- A round's column of positions. -/
theorem idx_3 : k3_pay26 lanes s = colI (place (st 0 s)) :=
  idx_of s 0 (s) rfl rfl

/-- A round's column of greatest entries. -/
theorem val_4 : k3_pay30 lanes s = colF (best (st 1 s)) :=
  val_of s 1 (k3_pay27 lanes s) rfl (run_4 s)

/-- A round's column of positions. -/
theorem idx_4 : k3_pay31 lanes s = colI (place (st 1 s)) :=
  idx_of s 1 (k3_pay27 lanes s) rfl (run_4 s)

/-- A round's column of greatest entries. -/
theorem val_5 : k3_pay35 lanes s = colF (best (st 2 s)) :=
  val_of s 2 (k3_pay32 lanes s) rfl (run_5 s)

/-- A round's column of positions. -/
theorem idx_5 : k3_pay36 lanes s = colI (place (st 2 s)) :=
  idx_of s 2 (k3_pay32 lanes s) rfl (run_5 s)

/-- A round's column of greatest entries. -/
theorem val_6 (b : FVec F S64 .f32) : k3_pay41 b = colF b := rfl

/-- A round's greatest entries, kept for the next run of rounds. -/
theorem best_6 : k3_pay38 lanes s = best (st 3 s) :=
  (rfl : k3_pay38 lanes s = best (k3_pay37 lanes s)).trans (congrArg best (run_6 s))

/-- A round's column of positions. -/
theorem idx_6 : k3_pay42 lanes (hits s) 8192#32 = colI (place s) := rfl

/-- What is left after a round, from where its run of rounds starts. -/
theorem run_7 : k3_pay43 lanes s (hits s) 8192#32 = st 1 s :=
  round_of s 0 (s) rfl rfl

/-- What is left after a round, from where its run of rounds starts. -/
theorem run_8 : k3_pay48 lanes s (hits s) 8192#32 = st 2 s :=
  round_of s 1 (k3_pay43 lanes s (hits s) 8192#32) rfl (run_7 s)

/-- What is left after a round, from where its run of rounds starts. -/
theorem run_9 : k3_pay53 lanes s (hits s) 8192#32 = st 3 s :=
  round_of s 2 (k3_pay48 lanes s (hits s) 8192#32) rfl (run_8 s)

/-- A round's column of greatest entries. -/
theorem val_7 : k3_pay46 lanes s (hits s) 8192#32 = colF (best (st 1 s)) :=
  val_of s 1 (k3_pay43 lanes s (hits s) 8192#32) rfl (run_7 s)

/-- A round's column of positions. -/
theorem idx_7 : k3_pay47 lanes s (hits s) 8192#32 = colI (place (st 1 s)) :=
  idx_of s 1 (k3_pay43 lanes s (hits s) 8192#32) rfl (run_7 s)

/-- A round's column of greatest entries. -/
theorem val_8 : k3_pay51 lanes s (hits s) 8192#32 = colF (best (st 2 s)) :=
  val_of s 2 (k3_pay48 lanes s (hits s) 8192#32) rfl (run_8 s)

/-- A round's column of positions. -/
theorem idx_8 : k3_pay52 lanes s (hits s) 8192#32 = colI (place (st 2 s)) :=
  idx_of s 2 (k3_pay48 lanes s (hits s) 8192#32) rfl (run_8 s)

/-- A round's column of greatest entries. -/
theorem val_9 : k3_pay56 lanes s (hits s) 8192#32 = colF (best (st 3 s)) :=
  val_of s 3 (k3_pay53 lanes s (hits s) 8192#32) rfl (run_9 s)

/-- A round's column of positions. -/
theorem idx_9 : k3_pay57 lanes s (hits s) 8192#32 = colI (place (st 3 s)) :=
  idx_of s 3 (k3_pay53 lanes s (hits s) 8192#32) rfl (run_9 s)

/-- What is left after a round, from where its run of rounds starts. -/
theorem run_10 : k3_pay58 lanes s (place s) = st 1 s :=
  round_of s 0 (s) rfl rfl

/-- What is left after a round, from where its run of rounds starts. -/
theorem run_11 : k3_pay63 lanes s (place s) = st 2 s :=
  round_of s 1 (k3_pay58 lanes s (place s)) rfl (run_10 s)

/-- What is left after a round, from where its run of rounds starts. -/
theorem run_12 : k3_pay68 lanes s (place s) = st 3 s :=
  round_of s 2 (k3_pay63 lanes s (place s)) rfl (run_11 s)

/-- What is left after a round, from where its run of rounds starts. -/
theorem run_13 : k3_pay73 lanes s (place s) = st 4 s :=
  round_of s 3 (k3_pay68 lanes s (place s)) rfl (run_12 s)

/-- A round's column of greatest entries. -/
theorem val_10 : k3_pay61 lanes s (place s) = colF (best (st 1 s)) :=
  val_of s 1 (k3_pay58 lanes s (place s)) rfl (run_10 s)

/-- A round's column of positions. -/
theorem idx_10 : k3_pay62 lanes s (place s) = colI (place (st 1 s)) :=
  idx_of s 1 (k3_pay58 lanes s (place s)) rfl (run_10 s)

/-- A round's column of greatest entries. -/
theorem val_11 : k3_pay66 lanes s (place s) = colF (best (st 2 s)) :=
  val_of s 2 (k3_pay63 lanes s (place s)) rfl (run_11 s)

/-- A round's column of positions. -/
theorem idx_11 : k3_pay67 lanes s (place s) = colI (place (st 2 s)) :=
  idx_of s 2 (k3_pay63 lanes s (place s)) rfl (run_11 s)

/-- A round's column of greatest entries. -/
theorem val_12 : k3_pay71 lanes s (place s) = colF (best (st 3 s)) :=
  val_of s 3 (k3_pay68 lanes s (place s)) rfl (run_12 s)

/-- A round's column of positions. -/
theorem idx_12 : k3_pay72 lanes s (place s) = colI (place (st 3 s)) :=
  idx_of s 3 (k3_pay68 lanes s (place s)) rfl (run_12 s)

/-- What is left after a round, from where its run of rounds starts. -/
theorem run_14 : k3_pay78 lanes s = st 1 s :=
  round_of s 0 (s) rfl rfl

/-- What is left after a round, from where its run of rounds starts. -/
theorem run_15 : k3_pay83 lanes s = st 2 s :=
  round_of s 1 (k3_pay78 lanes s) rfl (run_14 s)

/-- What is left after a round, from where its run of rounds starts. -/
theorem run_16 : k3_pay88 lanes s = st 3 s :=
  round_of s 2 (k3_pay83 lanes s) rfl (run_15 s)

/-- A round's column of greatest entries. -/
theorem val_13 : k3_pay76 s = colF (best (st 0 s)) :=
  val_of s 0 (s) rfl rfl

/-- A round's column of positions. -/
theorem idx_13 : k3_pay77 lanes s = colI (place (st 0 s)) :=
  idx_of s 0 (s) rfl rfl

/-- A round's column of greatest entries. -/
theorem val_14 : k3_pay81 lanes s = colF (best (st 1 s)) :=
  val_of s 1 (k3_pay78 lanes s) rfl (run_14 s)

/-- A round's column of positions. -/
theorem idx_14 : k3_pay82 lanes s = colI (place (st 1 s)) :=
  idx_of s 1 (k3_pay78 lanes s) rfl (run_14 s)

/-- A round's column of greatest entries. -/
theorem val_15 : k3_pay86 lanes s = colF (best (st 2 s)) :=
  val_of s 2 (k3_pay83 lanes s) rfl (run_15 s)

/-- A round's column of positions. -/
theorem idx_15 : k3_pay87 lanes s = colI (place (st 2 s)) :=
  idx_of s 2 (k3_pay83 lanes s) rfl (run_15 s)

/-- A round's column of greatest entries. -/
theorem val_16 (b : FVec F S64 .f32) : k3_pay92 b = colF b := rfl

/-- A round's greatest entries, kept for the next run of rounds. -/
theorem best_16 : k3_pay89 lanes s = best (st 3 s) :=
  (rfl : k3_pay89 lanes s = best (k3_pay88 lanes s)).trans (congrArg best (run_16 s))

/-- A round's column of positions. -/
theorem idx_16 : k3_pay93 lanes (hits s) 8192#32 = colI (place s) := rfl

/-- What is left after a round, from where its run of rounds starts. -/
theorem run_17 : k3_pay94 lanes s (hits s) 8192#32 = st 1 s :=
  round_of s 0 (s) rfl rfl

/-- What is left after a round, from where its run of rounds starts. -/
theorem run_18 : k3_pay99 lanes s (hits s) 8192#32 = st 2 s :=
  round_of s 1 (k3_pay94 lanes s (hits s) 8192#32) rfl (run_17 s)

/-- What is left after a round, from where its run of rounds starts. -/
theorem run_19 : k3_pay104 lanes s (hits s) 8192#32 = st 3 s :=
  round_of s 2 (k3_pay99 lanes s (hits s) 8192#32) rfl (run_18 s)

/-- A round's column of greatest entries. -/
theorem val_17 : k3_pay97 lanes s (hits s) 8192#32 = colF (best (st 1 s)) :=
  val_of s 1 (k3_pay94 lanes s (hits s) 8192#32) rfl (run_17 s)

/-- A round's column of positions. -/
theorem idx_17 : k3_pay98 lanes s (hits s) 8192#32 = colI (place (st 1 s)) :=
  idx_of s 1 (k3_pay94 lanes s (hits s) 8192#32) rfl (run_17 s)

/-- A round's column of greatest entries. -/
theorem val_18 : k3_pay102 lanes s (hits s) 8192#32 = colF (best (st 2 s)) :=
  val_of s 2 (k3_pay99 lanes s (hits s) 8192#32) rfl (run_18 s)

/-- A round's column of positions. -/
theorem idx_18 : k3_pay103 lanes s (hits s) 8192#32 = colI (place (st 2 s)) :=
  idx_of s 2 (k3_pay99 lanes s (hits s) 8192#32) rfl (run_18 s)

/-- A round's column of greatest entries. -/
theorem val_19 : k3_pay107 lanes s (hits s) 8192#32 = colF (best (st 3 s)) :=
  val_of s 3 (k3_pay104 lanes s (hits s) 8192#32) rfl (run_19 s)

/-- A round's column of positions. -/
theorem idx_19 : k3_pay108 lanes s (hits s) 8192#32 = colI (place (st 3 s)) :=
  idx_of s 3 (k3_pay104 lanes s (hits s) 8192#32) rfl (run_19 s)

/-- What is left after a round, from where its run of rounds starts. -/
theorem run_20 : k3_pay109 lanes s (place s) = st 1 s :=
  round_of s 0 (s) rfl rfl

/-- What is left after a round, from where its run of rounds starts. -/
theorem run_21 : k3_pay114 lanes s (place s) = st 2 s :=
  round_of s 1 (k3_pay109 lanes s (place s)) rfl (run_20 s)

/-- What is left after a round, from where its run of rounds starts. -/
theorem run_22 : k3_pay119 lanes s (place s) = st 3 s :=
  round_of s 2 (k3_pay114 lanes s (place s)) rfl (run_21 s)

/-- What is left after a round, from where its run of rounds starts. -/
theorem run_23 : k3_pay124 lanes s (place s) = st 4 s :=
  round_of s 3 (k3_pay119 lanes s (place s)) rfl (run_22 s)

/-- A round's column of greatest entries. -/
theorem val_20 : k3_pay112 lanes s (place s) = colF (best (st 1 s)) :=
  val_of s 1 (k3_pay109 lanes s (place s)) rfl (run_20 s)

/-- A round's column of positions. -/
theorem idx_20 : k3_pay113 lanes s (place s) = colI (place (st 1 s)) :=
  idx_of s 1 (k3_pay109 lanes s (place s)) rfl (run_20 s)

/-- A round's column of greatest entries. -/
theorem val_21 : k3_pay117 lanes s (place s) = colF (best (st 2 s)) :=
  val_of s 2 (k3_pay114 lanes s (place s)) rfl (run_21 s)

/-- A round's column of positions. -/
theorem idx_21 : k3_pay118 lanes s (place s) = colI (place (st 2 s)) :=
  idx_of s 2 (k3_pay114 lanes s (place s)) rfl (run_21 s)

/-- A round's column of greatest entries. -/
theorem val_22 : k3_pay122 lanes s (place s) = colF (best (st 3 s)) :=
  val_of s 3 (k3_pay119 lanes s (place s)) rfl (run_22 s)

/-- A round's column of positions. -/
theorem idx_22 : k3_pay123 lanes s (place s) = colI (place (st 3 s)) :=
  idx_of s 3 (k3_pay119 lanes s (place s)) rfl (run_22 s)

/-- What is left after a round, from where its run of rounds starts. -/
theorem run_24 : k3_pay129 lanes s = st 1 s :=
  round_of s 0 (s) rfl rfl

/-- What is left after a round, from where its run of rounds starts. -/
theorem run_25 : k3_pay134 lanes s = st 2 s :=
  round_of s 1 (k3_pay129 lanes s) rfl (run_24 s)

/-- What is left after a round, from where its run of rounds starts. -/
theorem run_26 : k3_pay139 lanes s = st 3 s :=
  round_of s 2 (k3_pay134 lanes s) rfl (run_25 s)

/-- A round's column of greatest entries. -/
theorem val_23 : k3_pay127 s = colF (best (st 0 s)) :=
  val_of s 0 (s) rfl rfl

/-- A round's column of positions. -/
theorem idx_23 : k3_pay128 lanes s = colI (place (st 0 s)) :=
  idx_of s 0 (s) rfl rfl

/-- A round's column of greatest entries. -/
theorem val_24 : k3_pay132 lanes s = colF (best (st 1 s)) :=
  val_of s 1 (k3_pay129 lanes s) rfl (run_24 s)

/-- A round's column of positions. -/
theorem idx_24 : k3_pay133 lanes s = colI (place (st 1 s)) :=
  idx_of s 1 (k3_pay129 lanes s) rfl (run_24 s)

/-- A round's column of greatest entries. -/
theorem val_25 : k3_pay137 lanes s = colF (best (st 2 s)) :=
  val_of s 2 (k3_pay134 lanes s) rfl (run_25 s)

/-- A round's column of positions. -/
theorem idx_25 : k3_pay138 lanes s = colI (place (st 2 s)) :=
  idx_of s 2 (k3_pay134 lanes s) rfl (run_25 s)

/-- A round's column of greatest entries. -/
theorem val_26 (b : FVec F S64 .f32) : k3_pay143 b = colF b := rfl

/-- A round's greatest entries, kept for the next run of rounds. -/
theorem best_26 : k3_pay140 lanes s = best (st 3 s) :=
  (rfl : k3_pay140 lanes s = best (k3_pay139 lanes s)).trans (congrArg best (run_26 s))

/-- A round's column of positions. -/
theorem idx_26 : k3_pay144 lanes (hits s) 8192#32 = colI (place s) := rfl

/-- What is left after a round, from where its run of rounds starts. -/
theorem run_27 : k3_pay145 lanes s (hits s) 8192#32 = st 1 s :=
  round_of s 0 (s) rfl rfl

/-- What is left after a round, from where its run of rounds starts. -/
theorem run_28 : k3_pay150 lanes s (hits s) 8192#32 = st 2 s :=
  round_of s 1 (k3_pay145 lanes s (hits s) 8192#32) rfl (run_27 s)

/-- What is left after a round, from where its run of rounds starts. -/
theorem run_29 : k3_pay155 lanes s (hits s) 8192#32 = st 3 s :=
  round_of s 2 (k3_pay150 lanes s (hits s) 8192#32) rfl (run_28 s)

/-- A round's column of greatest entries. -/
theorem val_27 : k3_pay148 lanes s (hits s) 8192#32 = colF (best (st 1 s)) :=
  val_of s 1 (k3_pay145 lanes s (hits s) 8192#32) rfl (run_27 s)

/-- A round's column of positions. -/
theorem idx_27 : k3_pay149 lanes s (hits s) 8192#32 = colI (place (st 1 s)) :=
  idx_of s 1 (k3_pay145 lanes s (hits s) 8192#32) rfl (run_27 s)

/-- A round's column of greatest entries. -/
theorem val_28 : k3_pay153 lanes s (hits s) 8192#32 = colF (best (st 2 s)) :=
  val_of s 2 (k3_pay150 lanes s (hits s) 8192#32) rfl (run_28 s)

/-- A round's column of positions. -/
theorem idx_28 : k3_pay154 lanes s (hits s) 8192#32 = colI (place (st 2 s)) :=
  idx_of s 2 (k3_pay150 lanes s (hits s) 8192#32) rfl (run_28 s)

/-- A round's column of greatest entries. -/
theorem val_29 : k3_pay158 lanes s (hits s) 8192#32 = colF (best (st 3 s)) :=
  val_of s 3 (k3_pay155 lanes s (hits s) 8192#32) rfl (run_29 s)

/-- A round's column of positions. -/
theorem idx_29 : k3_pay159 lanes s (hits s) 8192#32 = colI (place (st 3 s)) :=
  idx_of s 3 (k3_pay155 lanes s (hits s) 8192#32) rfl (run_29 s)

/-- What is left after a round, from where its run of rounds starts. -/
theorem run_30 : k3_pay1 lanes s (place s) = st 1 s :=
  round_of s 0 (s) rfl rfl

/-- What is left after a round, from where its run of rounds starts. -/
theorem run_31 : k3_pay3 lanes s (place s) (place (k3_pay1 lanes s (place s))) = next (k3_pay1 lanes s (place s)) := rfl

/-- A round's column of positions. -/
theorem idx_30 : k3_pay2 lanes s (place s) (best (k3_pay1 lanes s (place s))) = place (k3_pay1 lanes s (place s)) := rfl

/-- A round's column of positions. -/
theorem idx_31 : multiReductionI .minsi [1] S64 (k3_pay4 lanes s (best s)) 2147483647#32 reduces_S64x8192_S64 rfl = place s := rfl

variable (x : FVec F S64x8192 .f32)

/-! ## The arrays the kernel binds by name -/

/-- Reading the whole block reads the block. -/
theorem ld_whole : View.ld (Val := Elt F) (e' := .f32) x r3_0 = x := by
  rw [View.ld_unit_zero (funext fun a => by fin_cases a <;> rfl)]

/-- The value the kernel keeps of its iota: the column numbers. -/
theorem at_lanes : k3_pay160 x = lanes := rfl

/-- The value the kernel computes under this name, as a function of its block. -/
theorem at_161 : k3_pay161 x = st 3 x := by
  have h : k3_pay161 x = k3_pay22 (View.ld (Val := Elt F) (e' := .f32) x r3_0) := rfl
  rw [h, run_3, ld_whole]

/-- The value the kernel computes under this name, as a function of its block. -/
theorem at_162 : k3_pay162 x = st 6 x := by
  have h : k3_pay162 x = k3_pay37 (k3_pay160 x) (k3_pay161 x) := rfl
  rw [h, at_lanes, at_161, run_6, st_add]

/-- The round's hit positions, from where its run of rounds starts. -/
theorem run_163 : k3_pay39 lanes s = hits (st 3 s) :=
  (rfl : k3_pay39 lanes s = hits (k3_pay37 lanes s)).trans (congrArg hits (run_6 s))

/-- The value the kernel computes under this name, as a function of its block. -/
theorem at_163 : k3_pay163 x = hits (st 6 x) := by
  have h : k3_pay163 x = k3_pay39 (k3_pay160 x) (k3_pay161 x) := rfl
  rw [h, at_lanes, at_161, run_163, st_add]

/-- The value the kernel computes under this name, as a function of its block. -/
theorem at_164 : k3_pay164 x = st 9 x := by
  have h : k3_pay164 x = k3_pay53 (k3_pay160 x) (k3_pay162 x) (k3_pay163 x) 8192#32 := rfl
  rw [h, at_lanes, at_162, at_163, run_9, st_add]

/-- The round's selected columns, from where its run of rounds starts. -/
theorem run_165 : k3_pay55 lanes s (hits s) 8192#32 = place (st 3 s) :=
  (rfl : k3_pay55 lanes s (hits s) 8192#32 = place (k3_pay53 lanes s (hits s) 8192#32)).trans (congrArg place (run_9 s))

/-- The value the kernel computes under this name, as a function of its block. -/
theorem at_165 : k3_pay165 x = place (st 9 x) := by
  have h : k3_pay165 x = k3_pay55 (k3_pay160 x) (k3_pay162 x) (k3_pay163 x) 8192#32 := rfl
  rw [h, at_lanes, at_162, at_163, run_165, st_add]

/-- The value the kernel computes under this name, as a function of its block. -/
theorem at_166 : k3_pay166 x = st 13 x := by
  have h : k3_pay166 x = k3_pay73 (k3_pay160 x) (k3_pay164 x) (k3_pay165 x) := rfl
  rw [h, at_lanes, at_164, at_165, run_13, st_add]

/-- The value the kernel computes under this name, as a function of its block. -/
theorem at_167 : k3_pay167 x = st 16 x := by
  have h : k3_pay167 x = k3_pay88 (k3_pay160 x) (k3_pay166 x) := rfl
  rw [h, at_lanes, at_166, run_16, st_add]

/-- The round's hit positions, from where its run of rounds starts. -/
theorem run_168 : k3_pay90 lanes s = hits (st 3 s) :=
  (rfl : k3_pay90 lanes s = hits (k3_pay88 lanes s)).trans (congrArg hits (run_16 s))

/-- The value the kernel computes under this name, as a function of its block. -/
theorem at_168 : k3_pay168 x = hits (st 16 x) := by
  have h : k3_pay168 x = k3_pay90 (k3_pay160 x) (k3_pay166 x) := rfl
  rw [h, at_lanes, at_166, run_168, st_add]

/-- The value the kernel computes under this name, as a function of its block. -/
theorem at_169 : k3_pay169 x = st 19 x := by
  have h : k3_pay169 x = k3_pay104 (k3_pay160 x) (k3_pay167 x) (k3_pay168 x) 8192#32 := rfl
  rw [h, at_lanes, at_167, at_168, run_19, st_add]

/-- The round's selected columns, from where its run of rounds starts. -/
theorem run_170 : k3_pay106 lanes s (hits s) 8192#32 = place (st 3 s) :=
  (rfl : k3_pay106 lanes s (hits s) 8192#32 = place (k3_pay104 lanes s (hits s) 8192#32)).trans (congrArg place (run_19 s))

/-- The value the kernel computes under this name, as a function of its block. -/
theorem at_170 : k3_pay170 x = place (st 19 x) := by
  have h : k3_pay170 x = k3_pay106 (k3_pay160 x) (k3_pay167 x) (k3_pay168 x) 8192#32 := rfl
  rw [h, at_lanes, at_167, at_168, run_170, st_add]

/-- The value the kernel computes under this name, as a function of its block. -/
theorem at_171 : k3_pay171 x = st 23 x := by
  have h : k3_pay171 x = k3_pay124 (k3_pay160 x) (k3_pay169 x) (k3_pay170 x) := rfl
  rw [h, at_lanes, at_169, at_170, run_23, st_add]

/-- The value the kernel computes under this name, as a function of its block. -/
theorem at_172 : k3_pay172 x = st 26 x := by
  have h : k3_pay172 x = k3_pay139 (k3_pay160 x) (k3_pay171 x) := rfl
  rw [h, at_lanes, at_171, run_26, st_add]

/-- The round's hit positions, from where its run of rounds starts. -/
theorem run_173 : k3_pay141 lanes s = hits (st 3 s) :=
  (rfl : k3_pay141 lanes s = hits (k3_pay139 lanes s)).trans (congrArg hits (run_26 s))

/-- The value the kernel computes under this name, as a function of its block. -/
theorem at_173 : k3_pay173 x = hits (st 26 x) := by
  have h : k3_pay173 x = k3_pay141 (k3_pay160 x) (k3_pay171 x) := rfl
  rw [h, at_lanes, at_171, run_173, st_add]

/-- The value the kernel computes under this name, as a function of its block. -/
theorem at_174 : k3_pay174 x = st 29 x := by
  have h : k3_pay174 x = k3_pay155 (k3_pay160 x) (k3_pay172 x) (k3_pay173 x) 8192#32 := rfl
  rw [h, at_lanes, at_172, at_173, run_29, st_add]

/-- The round's selected columns, from where its run of rounds starts. -/
theorem run_175 : k3_pay157 lanes s (hits s) 8192#32 = place (st 3 s) :=
  (rfl : k3_pay157 lanes s (hits s) 8192#32 = place (k3_pay155 lanes s (hits s) 8192#32)).trans (congrArg place (run_29 s))

/-- The value the kernel computes under this name, as a function of its block. -/
theorem at_175 : k3_pay175 x = place (st 29 x) := by
  have h : k3_pay175 x = k3_pay157 (k3_pay160 x) (k3_pay172 x) (k3_pay173 x) 8192#32 := rfl
  rw [h, at_lanes, at_172, at_173, run_175, st_add]

/-- From the values kept after 29 rounds, one more round. -/
theorem next_29 : k3_pay1 (k3_pay160 x) (k3_pay174 x) (k3_pay175 x) = st 30 x := by rw [at_lanes, at_174, at_175, run_30, st_add]

/-- The value the kernel computes under this name, as a function of its block. -/
theorem at_176 : k3_pay176 x = best (st 30 x) := congrArg best (next_29 x)

/-- The value the kernel computes under this name, as a function of its block. -/
theorem at_177 : k3_pay177 x = place (st 30 x) := by
  have h : k3_pay177 x = k3_pay2 (k3_pay160 x) (k3_pay174 x) (k3_pay175 x) (best (k3_pay1 (k3_pay160 x) (k3_pay174 x) (k3_pay175 x))) := rfl
  rw [h, at_lanes, at_174, at_175, idx_30, run_30, st_add]

/-- The value the kernel computes under this name, as a function of its block. -/
theorem at_178 : k3_pay178 x = st 31 x := by
  have h : k3_pay178 x = k3_pay3 (k3_pay160 x) (k3_pay174 x) (k3_pay175 x) (k3_pay177 x) := rfl
  rw [h, at_177, ← next_29 x, at_lanes, at_174, at_175, run_31, run_30, st_add]
  rfl

/-- The value the kernel computes under this name, as a function of its block. -/
theorem at_179 : k3_pay179 x = best (st 31 x) := by
  have h : k3_pay179 x = best (k3_pay178 x) := rfl
  rw [h, at_178]

/-- Column `n` of the joined columns is the `n`-th column. -/
theorem columns_apply {α : Type} (f : Fin 32 → (S64x1.Idx → α))
    (h : Shape.Concatenates ((List.ofFn fun n : Fin 32 => (⟨S64x1, f n⟩ : (s : Shape) × (s.Idx → α))).map (·.1)) S64x32 1)
    (r : Fin 64) (n : Fin 32) :
    concatenate S64x32 1 (List.ofFn fun n : Fin 32 => (⟨S64x1, f n⟩ : (s : Shape) × (s.Idx → α))) h (ix2 r n) = f n (ix2 r 0) := by
  refine concatenate_ofFn_unit_apply (t := S64x32) (s₁ := S64x1) 1 f h rfl rfl (ix2 r n) n rfl (ix2 r 0) fun b hb => ?_
  match b with
  | ⟨0, _⟩ => rfl
  | ⟨1, _⟩ => exact absurd rfl hb

/-- A column of one, read at a row. -/
theorem col_apply {α : Type} (v : S64.Idx → α) (r : Fin 64) : shapeCast S64x1 v shapeCasts_S64_S64x1 (ix2 r 0) = v (ix1 r) := by
  refine shapeCast_apply _ _ _ (ix1 r) ?_
  rw [Shape.rowMajor_val_one, Shape.rowMajor_val_two]
  show r.val = r.val * 1 + 0
  omega

/-- The value block: row `r`, column `n` holds row `r`'s greatest entry at round `n`. -/
theorem out3_1_apply (r : Fin 64) (n : Fin 32) : out3_1 x (ix2 r n) = best (st n.val x) (ix1 r) := by
  unfold out3_1
  rw [View.canon_unit_zero (funext fun a => by fin_cases a <;> rfl)]
  simp only [at_lanes, at_161, at_162, at_163, at_164, at_165, at_166, at_167, at_168, at_169, at_170, at_171, at_172, at_173, at_174, at_175, best_6, best_16, best_26, at_176, at_177, at_178, at_179, ld_whole, st_add, val_0, val_1, val_2, val_3, val_4, val_5, val_6, val_7, val_8, val_9, val_10, val_11, val_12, val_13, val_14, val_15, val_16, val_17, val_18, val_19, val_20, val_21, val_22, val_23, val_24, val_25, val_26, val_27, val_28, val_29]
  unfold k3_pay5
  exact (columns_apply (fun n : Fin 32 => colF (best (st n.val x))) _ r n).trans (col_apply _ r)

/-- The index block: row `r`, column `n` holds row `r`'s least column attaining the greatest entry at round `n`. -/
theorem out3_2_apply (r : Fin 64) (n : Fin 32) : out3_2 x (ix2 r n) = place (st n.val x) (ix1 r) := by
  unfold out3_2
  rw [View.canon_unit_zero (funext fun a => by fin_cases a <;> rfl)]
  simp only [at_lanes, at_161, at_162, at_163, at_164, at_165, at_166, at_167, at_168, at_169, at_170, at_171, at_172, at_173, at_174, at_175, best_6, best_16, best_26, at_176, at_177, at_178, at_179, ld_whole, st_add, idx_0, idx_1, idx_2, idx_3, idx_4, idx_5, idx_6, idx_7, idx_8, idx_9, idx_10, idx_11, idx_12, idx_13, idx_14, idx_15, idx_16, idx_17, idx_18, idx_19, idx_20, idx_21, idx_22, idx_23, idx_24, idx_25, idx_26, idx_27, idx_28, idx_29]
  unfold k3_pay6
  simp only [idx_31]
  exact (columns_apply (fun n : Fin 32 => colI (place (st n.val x))) _ r n).trans (col_apply _ r)

end Cert.Proof.Ker

end
-- ==== Proof.TopkMath.lean ====
/-
  The mathematics of a top-k by repeated maximum, over any linear order. Round after round the first position of the greatest
  entry is picked and its entry replaced by a value below all entries. The positions picked are, in order, the first positions
  of the stable sort that puts greater entries first.
-/
module

public import Idealize.ShloMosaic.Lib.SortPrefix
public import Mathlib.Data.Fintype.Card
public import Mathlib.Data.Finset.Card

@[expose] public section

namespace Cert.Proof.Topk

open Idealize.ShloMosaic

/-- On an increasing list the stable sort asks "is `b` before `a`" only of a `b` that stands after `a`: two comparators that agree
    there sort it alike. -/
theorem stableSort_eq_of_later {n : Nat} (B B' : Fin n → Fin n → Bool) (h : ∀ a b : Fin n, a < b → B b a = B' b a) :
    ∀ l : List (Fin n), l.Pairwise (· < ·) → stableSort B l = stableSort B' l
  | [], _ => rfl
  | a :: l, hl => by
    rw [List.pairwise_cons] at hl
    show insertBefore B a (stableSort B l) = insertBefore B' a (stableSort B' l)
    rw [stableSort_eq_of_later B B' h l hl.2]
    exact insertBefore_congr B B' a _ fun b hb => h a b (hl.1 b ((perm_stableSort B' l).mem_iff.mp hb))

variable {n : Nat} {α : Type} [LinearOrder α]

/-- The comparator "greater entry first". -/
def before (f : Fin n → α) (a b : Fin n) : Bool := decide (f b < f a)

/-- The comparator "greater entry first, of equal entries the earlier position first". -/
def strictly (f : Fin n → α) (a b : Fin n) : Bool := decide (f b < f a) || (decide (f a = f b) && decide (a < b))

/-- The second is a strict total order on the positions. -/
theorem strictly_total (f : Fin n → α) : StrictTotalBefore (strictly f) :=
  StrictTotalBefore.of_key_then_position (fun a b : α => decide (b < a)) f (fun a => by simp)
    (fun a b c hab hbc => by
      simp only [decide_eq_true_eq] at hab hbc ⊢
      exact lt_trans hbc hab)
    (fun a b => by
      simp only [decide_eq_true_eq]
      rcases lt_trichotomy a b with h | h | h
      · exact .inr (.inr h)
      · exact .inr (.inl h)
      · exact .inl h)

/-- Both sort the positions alike. -/
theorem sortedFrom_before (f : Fin n → α) (k : Fin n) : sortedFrom (before f) k = sortedFrom (strictly f) k := by
  have h : sortPositions n (before f) = sortPositions n (strictly f) := by
    refine stableSort_eq_of_later _ _ (fun a b hab => ?_) _ (List.pairwise_lt_finRange n)
    unfold before strictly
    rw [decide_eq_false (not_lt.mpr hab.le), Bool.and_false, Bool.or_false]
  unfold sortedFrom
  simp only [List.get_eq_getElem, h, Fin.val_cast]

/-- `p` is the first position of the greatest entry of `g`. -/
structure IsPick (g : Fin n → α) (p : Fin n) : Prop where
  ge : ∀ c, g c ≤ g p
  first : ∀ c, c < p → g c < g p

/-- Rounds: `g k` is the row as round `k` finds it, `σ k` the position the round picks, and `m` the value that takes its entry's place. -/
structure Rounds (m : α) (g : Nat → Fin n → α) (σ : Nat → Fin n) : Prop where
  pick : ∀ k, IsPick (g k) (σ k)
  step : ∀ k c, g (k + 1) c = if c = σ k then m else g k c

variable {m : α} {g : Nat → Fin n → α} {σ : Nat → Fin n} (R : Rounds m g σ)
include R

/-- A position not picked so far keeps its entry. -/
theorem kept (c : Fin n) : ∀ k, (∀ l, l < k → σ l ≠ c) → g k c = g 0 c
  | 0, _ => rfl
  | k + 1, h => by
    rw [R.step, if_neg fun e => h k (Nat.lt_succ_self k) e.symm]
    exact kept c k fun l hl => h l (Nat.lt_succ_of_lt hl)

/-- A position picked before holds `m`. -/
theorem lost (c : Fin n) : ∀ k, (∃ l, l < k ∧ σ l = c) → g k c = m
  | 0, h => by obtain ⟨l, hl, _⟩ := h; exact absurd hl (Nat.not_lt_zero l)
  | k + 1, h => by
    rw [R.step]
    by_cases e : c = σ k
    · rw [if_pos e]
    · rw [if_neg e]
      obtain ⟨l, hl, hc⟩ := h
      refine lost c k ⟨l, ?_, hc⟩
      rcases Nat.lt_succ_iff_lt_or_eq.mp hl with h' | h'
      · exact h'
      · subst h'; exact absurd hc.symm e

variable (hm : ∀ c, m < g 0 c)
include hm

/-- With fewer rounds done than there are positions, a round picks a position not picked before. -/
theorem fresh (k : Nat) (hk : k < n) (l : Nat) (hl : l < k) : σ l ≠ σ k := by
  intro e
  have h1 : g k (σ k) = m := lost R (σ k) k ⟨l, hl, e⟩
  have h2 : ∃ c, c ∉ (Finset.range k).image σ := by
    by_contra hall
    push Not at hall
    have := Finset.card_le_card (fun c _ => hall c : (Finset.univ : Finset (Fin n)) ⊆ (Finset.range k).image σ)
    have h3 := Finset.card_image_le (s := Finset.range k) (f := σ)
    rw [Finset.card_univ, Fintype.card_fin] at this
    rw [Finset.card_range] at h3
    omega
  obtain ⟨c, hc⟩ := h2
  have h3 : g k c = g 0 c := kept R c k fun l hl e => hc (Finset.mem_image.mpr ⟨l, Finset.mem_range.mpr hl, e⟩)
  have h4 := (R.pick k).ge c
  rw [h3, h1] at h4
  exact absurd (hm c) (not_lt.mpr h4)

/-- The entry a round picks is the row's own entry there. -/
theorem picked (k : Nat) (hk : k < n) : g k (σ k) = g 0 (σ k) := kept R (σ k) k fun l hl => fresh R hm k hk l hl

/-- What round `i` picks is not sorted after a position that no earlier round picked. -/
theorem not_after (i : Nat) (hi : i < n) (p : Fin n) (hp : ∀ l, l < i → σ l ≠ p) : strictly (g 0) p (σ i) = false := by
  have h1 := (R.pick i).ge p
  have h2 := (R.pick i).first p
  rw [picked R hm i hi, kept R p i hp] at h1 h2
  unfold strictly
  rw [decide_eq_false (not_lt.mpr h1), Bool.false_or]
  by_cases e : p < σ i
  · rw [decide_eq_false (ne_of_lt (h2 e)), Bool.false_and]
  · rw [decide_eq_false e, Bool.and_false]

/-- **The rounds pick the sort's first positions**: for `K` rounds on a row of at least `K` entries, all above `m`, the stable sort by "greater
    entry first" takes its `i`-th element from the position that round `i` picks. -/
theorem sortedFrom_eq_pick (K : Nat) (hK : K ≤ n) (i : Fin K) : sortedFrom (before (g 0)) (i.castLE hK) = σ i.val := by
  rw [sortedFrom_before]
  refine (strictly_total (g 0)).sortedFrom_eq_of_prefix hK (fun i : Fin K => σ i.val) (fun a b h => ?_) (fun a b hab => ?_) (fun a p hp => ?_) i
  · rcases lt_trichotomy a b with l | l | l
    · exact absurd h (fresh R hm b.val (b.isLt.trans_le hK) a.val l)
    · exact l
    · exact absurd h.symm (fresh R hm a.val (a.isLt.trans_le hK) b.val l)
  · exact not_after R hm a.val (a.isLt.trans_le hK) (σ b.val) fun l hl =>
      fresh R hm b.val (b.isLt.trans_le hK) l (hl.trans hab)
  · exact not_after R hm a.val (a.isLt.trans_le hK) p fun l hl => hp ⟨l, hl.trans a.isLt⟩

end Cert.Proof.Topk
-- ==== Proof.TopkRow.lean ====
/-
  The top-k kernel's rounds at the extended reals, row by row: what a round finds in a row is the first position of the row's
  greatest entry, so the rounds are those of the mathematics of a top-k by repeated maximum.
-/
module

public import proofs.«01_k».proof.Proof.TopkRounds
public import proofs.«01_k».proof.Proof.TopkMath
public import Idealize.ShloMosaic.Lib.IdealHost
public import Idealize.ShloMosaic.Lib.SortNet.Extract
public import Idealize.ShloMosaic.Lib.WordCmp

@[expose] public section

noncomputable section

namespace Cert.Proof.Ker

open Cert.KernelIdeal Cert.KernelIdeal.Gen Idealize.ShloMosaic Idealize.ShloMosaic.TcCoe Idealize.ShloMosaic.ValueIdx
open Cert.Proof.Topk

/-- Every row of one or more entries has a first position of its greatest entry. -/
theorem exists_pick {n : Nat} (hn : 0 < n) (g : Fin n → EReal) : ∃ p, IsPick g p := by
  have : Nonempty (Fin n) := ⟨⟨0, hn⟩⟩
  obtain ⟨q, hq⟩ := Finite.exists_max g
  let S : Finset (Fin n) := Finset.univ.filter fun p => g p = g q
  have hS : S.Nonempty := ⟨q, by simp [S]⟩
  have h1 : g (S.min' hS) = g q := (Finset.mem_filter.mp (S.min'_mem hS)).2
  refine ⟨S.min' hS, fun c => h1 ▸ hq c, fun c hc => ?_⟩
  rw [h1]
  refine lt_of_le_of_ne (hq c) fun e => ?_
  exact absurd (S.min'_le c (Finset.mem_filter.mpr ⟨Finset.mem_univ _, e⟩)) (not_le.mpr hc)

/-- That position. -/
def pickOf (g : Fin 8192 → EReal) : Fin 8192 := Classical.choose (exists_pick (by decide) g)

/-- The chosen position is a pick. -/
theorem pickOf_spec (g : Fin 8192 → EReal) : IsPick g (pickOf g) := Classical.choose_spec (exists_pick (by decide) g)

/-- The large negative number that takes a picked entry's place, -3 · 10³⁸ in single precision. -/
def low : EReal := Ideal.ofBits .f32 0xFF61B1E6#32

/-- The number the rounds write over a picked entry. -/
theorem low_eq : (Scalar.ofBits .f32 0xFF61B1E6#32 : Ideal .f32) = low := rfl

variable (s : FVec Ideal S64x8192 .f32) (r : Fin 64)

/-- Row `r` of a block. -/
def row : Fin 8192 → EReal := fun c => s (ix2 r c)

/-- Putting a column into a row's index. -/
theorem lift_row (h : S64x8192.Reduces [1] S64) (c : Fin 8192) : h.lift (ix1 r) c = ix2 r c := Shape.idx_ext₂ rfl rfl

/-- A row's value broadcast over its columns. -/
theorem spread_apply {α : Type} (v : S64.Idx → α) (c : Fin 8192) :
    broadcastTo S64x8192 (shapeCast S64x1 v shapeCasts_S64_S64x1) broadcasts_S64x1_S64x8192 (ix2 r c) = v (ix1 r) := by
  have h : broadcastTo S64x8192 (shapeCast S64x1 v shapeCasts_S64_S64x1) broadcasts_S64x1_S64x8192 (ix2 r c)
      = shapeCast S64x1 v shapeCasts_S64_S64x1 (ix2 r 0) :=
    congrArg (shapeCast S64x1 v shapeCasts_S64_S64x1) (Shape.idx_ext₂ rfl rfl)
  exact h.trans (col_apply v r)

/-- The row's greatest entry. -/
theorem best_apply : best s (ix1 r) = row s r (pickOf (row s r)) := by
  refine (Ideal.multiReduction_maximumf_single s _ _ _ _ _).trans ?_
  have h0 : (FloatOps.ofBits .f32 0xFF800000#32 : Ideal .f32) = (⊥ : EReal) := by simp [Ideal.ofBits, Ideal.ieee]
  have hp := pickOf_spec (row s r)
  rw [h0]
  have hf : (s ∘ reduces_S64x8192_S64.lift (ix1 r)) = row s r := funext fun c => congrArg s (lift_row r _ c)
  rw [hf]
  refine le_antisymm ?_ ?_
  · exact Finset.fold_max_le _ |>.mpr ⟨bot_le, fun c _ => hp.ge c⟩
  · exact Finset.le_fold_max _ |>.mpr (.inr ⟨_, Finset.mem_univ _, le_rfl⟩)

/-- Which entries equal the row's greatest. -/
theorem hits_apply (c : Fin 8192) : hits s (ix2 r c) = BitVec.ofBool (decide (row s r c = row s r (pickOf (row s r)))) := by
  have h : hits s (ix2 r c) = Ideal.cmp .oeq (s (ix2 r c))
      (broadcastTo S64x8192 (shapeCast S64x1 (best s) shapeCasts_S64_S64x1) broadcasts_S64x1_S64x8192 (ix2 r c)) := rfl
  rw [h, spread_apply, best_apply]
  rfl

/-- The least column that attains the row's greatest entry. -/
theorem place_apply : place s (ix1 r) = BitVec.ofNat 32 (pickOf (row s r)).val := by
  have hp := pickOf_spec (row s r)
  set p := pickOf (row s r) with hpd
  refine (multiReductionI_eq_fold _ _ _ _ _ _).trans ?_
  rw [Shape.Reduces.fold_filter_drop_single]
  have hf : (select (hits s) lanes (broadcast S64x8192 8192#32) ∘ reduces_S64x8192_S64.lift (ix1 r))
      = fun c : Fin 8192 => if row s r c = row s r p then BitVec.ofNat 32 c.val else 8192#32 := by
    refine funext fun c : Fin 8192 => ?_
    refine (congrArg (select (hits s) lanes (broadcast S64x8192 8192#32)) (lift_row r reduces_S64x8192_S64 c)).trans ?_
    show Scalar.select (hits s (ix2 r c)) (lanes (ix2 r c)) 8192#32 = _
    rw [hits_apply, ← hpd, WordCmp.select_ofBool, show lanes (ix2 r c) = BitVec.ofNat 32 c.val from iota_single_apply _ _ _ _ _ _]
    simp only [decide_eq_true_eq]
  rw [hf]
  refine BitVec.eq_of_toInt_eq ?_
  have hi : ∀ c : Fin 8192, (BitVec.ofNat 32 c.val).toInt = (c.val : Int) := fun c => by
    have := c.isLt
    rw [BitVec.toInt_eq_toNat_of_lt (by rw [BitVec.toNat_ofNat]; omega), BitVec.toNat_ofNat, Nat.mod_eq_of_lt (by omega)]
  have hfold := Finset.fold_hom (op := IntOp.minsi (w := 32)) (op' := min) (m := BitVec.toInt) (b := 2147483647#32)
    (s := (Finset.univ : Finset (Fin 8192))) (f := fun c : Fin 8192 => if row s r c = row s r p then BitVec.ofNat 32 c.val else 8192#32)
    fun a b => SortNet.toInt_minsi a b
  refine Eq.trans ?_ (hfold.symm.trans ?_)
  · rfl
  rw [hi]
  have hval : ∀ c : Fin 8192, (if row s r c = row s r p then BitVec.ofNat 32 c.val else 8192#32).toInt
      = if row s r c = row s r p then (c.val : Int) else 8192 := fun c => by
    split
    · exact hi c
    · rfl
  have hlt := p.isLt
  refine le_antisymm ?_ ?_
  · refine Finset.fold_min_le _ |>.mpr (.inr ⟨p, Finset.mem_univ _, ?_⟩)
    rw [hval, if_pos rfl]
  · refine Finset.le_fold_min _ |>.mpr ⟨?_, fun c _ => ?_⟩
    · show (p.val : Int) ≤ 2147483647
      omega
    · rw [hval]
      split
      · rename_i e
        by_contra hc
        have : c < p := by
          rw [Fin.lt_def]; omega
        exact absurd e (ne_of_lt (hp.first c this))
      · omega

/-- Comparing words for equality, at one index. -/
theorem same_apply (a b : IVec S64x8192 32) (i : S64x8192.Idx) : cmpi .eq a b i = BitVec.ofBool (a i == b i) := rfl

/-- What a round leaves of a row. -/
theorem next_apply (c : Fin 8192) : row (next s) r c = if c = pickOf (row s r) then low else row s r c := by
  have h : row (next s) r c = Scalar.select
      (cmpi .eq lanes (broadcastTo S64x8192 (shapeCast S64x1 (place s) shapeCasts_S64_S64x1) broadcasts_S64x1_S64x8192) (ix2 r c))
      (Scalar.ofBits .f32 0xFF61B1E6#32 : Ideal .f32) (s (ix2 r c)) := by
    unfold row next select broadcast
    rfl
  have hl : lanes (ix2 r c) = BitVec.ofNat 32 c.val := iota_single_apply _ _ _ _ _ _
  rw [h, same_apply, spread_apply, place_apply, hl, low_eq]
  rw [WordCmp.select_ofBool]
  have hc := c.isLt
  have hq := (pickOf (row s r)).isLt
  have e : (BitVec.ofNat 32 c.val == BitVec.ofNat 32 (pickOf (row s r)).val) = decide (c = pickOf (row s r)) := by
    rw [Bool.eq_iff_iff, beq_iff_eq, decide_eq_true_eq]
    constructor
    · intro e
      have := congrArg BitVec.toNat e
      rw [BitVec.toNat_ofNat, BitVec.toNat_ofNat, Nat.mod_eq_of_lt (by omega), Nat.mod_eq_of_lt (by omega)] at this
      exact Fin.ext this
    · intro e; rw [e]
  rw [e]
  simp only [decide_eq_true_eq]
  rfl

/-- The kernel's rounds on a row are the rounds of a top-k by repeated maximum. -/
theorem row_rounds : Rounds low (fun k => row (st k s) r) (fun k => pickOf (row (st k s) r)) where
  pick k := pickOf_spec _
  step k c := next_apply (st k s) r c

variable (hs : ∀ c, low < row s r c)
include hs

/-- Round `k`'s index is the position from which the sort takes its `k`-th element. -/
theorem place_sorted (k : Fin 32) :
    place (st k.val s) (ix1 r) = BitVec.ofNat 32 (sortedFrom (before (row s r)) (k.castLE (by decide : 32 ≤ 8192))).val := by
  rw [place_apply]
  exact congrArg (fun p : Fin 8192 => BitVec.ofNat 32 p.val) (sortedFrom_eq_pick (row_rounds s r) hs 32 (by decide) k).symm

/-- Round `k`'s value is the sort's `k`-th element. -/
theorem best_sorted (k : Fin 32) :
    best (st k.val s) (ix1 r) = row s r (sortedFrom (before (row s r)) (k.castLE (by decide : 32 ≤ 8192))) := by
  rw [best_apply]
  refine Eq.trans ?_ (congrArg (row s r) (sortedFrom_eq_pick (row_rounds s r) hs 32 (by decide) k).symm)
  exact picked (row_rounds s r) hs k.val (by have := k.isLt; omega)

end Cert.Proof.Ker

end
-- ==== Proof.SimValue.lean ====
/-
  The similarity kernel's result: on a grid of 8 by 4 points, each writing a 256 by 2048 block, the result array ends
  holding the product of every user's row with every item's row.
-/
module

public import proofs.«01_k».proof.Proof.Gen.KernelIdeal.Frame
public import Idealize.ShloMosaic.Lib.Pipeline.Value
public import Idealize.ShloMosaic.Lib.MatmulPlain
public import Idealize.ShloMosaic.Lib.ValueIdx

@[expose] public section

noncomputable section

namespace Cert.Proof.Ker

open Cert.KernelIdeal Cert.KernelIdeal.Gen Idealize.ShloMosaic Idealize.ShloMosaic.TcCoe Idealize.ShloMosaic.ValueIdx
open Idealize.ShloMosaic.Pipeline (Dat)
open scoped BigOperators

/-- A two-axis rectangle that starts at the origin. -/
theorem origin2 : (![0, 0] : Fin 2 → Nat) = fun _ => 0 := funext fun a => by fin_cases a <;> rfl

/-- Every row of `u` times every row of `it`. -/
def simOf (u : FVec Ideal S2048x512 .f32) (it : FVec Ideal S8192x512 .f32) : FVec Ideal S2048x8192 .f32 :=
  fun i => ∑ k : Fin 512, u (ix2 (i 0) k) * it (ix2 (i 1) k)

/-- One block's product, at an index. -/
theorem k2_pay1_apply (x : FVec Ideal S256x512 .f32) (y : FVec Ideal S2048x512 .f32) (i : S256x2048.Idx) :
    k2_pay1 (F := Ideal) x y i = ∑ k : Fin 512, x (ix2 (i 0) k) * y (ix2 (i 1) k) := by
  obtain ⟨r, c, rfl⟩ : ∃ (r : Fin 256) (c : Fin 2048), i = ix2 r c := ⟨i 0, i 1, Shape.idx_ext₂ rfl rfl⟩
  unfold k2_pay1
  rw [shapeCast_self, shapeCast_self]
  refine (Ideal.matmul_transposedRhs_apply (M := 256) (K := 512) (N := 2048) none x y (constant S256x2048 .f32 0x00000000#32) r c).trans ?_
  rw [constant_apply, Ideal.ofBits_zero_f32, zero_add]

/-- The block numbers of the three windows at a point. -/
theorem idx2 : ∀ t : Fin cfg2.N,
    (win2_0.index t 0 = t.val / 4 ∧ win2_0.index t 1 = 0) ∧ (win2_1.index t 0 = t.val % 4 ∧ win2_1.index t 1 = 0)
      ∧ (win2_2.index t 0 = t.val / 4 ∧ win2_2.index t 1 = t.val % 4) :=
  (by decide +kernel : ∀ t : Fin grid2.N,
    (win2_0.index t 0 = t.val / 4 ∧ win2_0.index t 1 = 0) ∧ (win2_1.index t 0 = t.val % 4 ∧ win2_1.index t 1 = 0)
      ∧ (win2_2.index t 0 = t.val / 4 ∧ win2_2.index t 1 = t.val % 4))

variable (V : (c : Dev nD) → (b : Ref sig .tc) → Buf (Elt Ideal) ((c : Thread nD τ).loc b)) (c : Dev nD)

/-- A point's block of the users, at an index: the users at the block's offset. -/
theorem sim_users (t : Fin cfg2.N) (r : Fin 256) (k : Fin 512) (R : Fin 2048) (h : R.val = t.val / 4 * 256 + r.val) :
    iblk2 V c 0 t (ix2 r k) = V c main_v49 (ix2 R k) := by
  obtain ⟨⟨a0, a1⟩, -⟩ := idx2 t
  refine congrArg (V c main_v49) (show ((cfg2.win 0).blk t).view.emb (ix2 r k) = ix2 R k from
    Shape.idx_ext₂ ?_ ?_)
  · refine (win2_0.rect_emb_val t (ix2 r k) 0).trans ?_
    rw [a0]; exact h.symm
  · refine (win2_0.rect_emb_val t (ix2 r k) 1).trans ?_
    rw [a1, Nat.zero_mul, Nat.zero_add]; rfl

/-- A point's block of the items, at an index: the items at the block's offset. -/
theorem sim_items (t : Fin cfg2.N) (r : Fin 2048) (k : Fin 512) (R : Fin 8192) (h : R.val = t.val % 4 * 2048 + r.val) :
    iblk2 V c 1 t (ix2 r k) = V c main_v54 (ix2 R k) := by
  obtain ⟨-, ⟨a0, a1⟩, -⟩ := idx2 t
  refine congrArg (V c main_v54) (show ((cfg2.win 1).blk t).view.emb (ix2 r k) = ix2 R k from
    Shape.idx_ext₂ ?_ ?_)
  · refine (win2_1.rect_emb_val t (ix2 r k) 0).trans ?_
    rw [a0]; exact h.symm
  · refine (win2_1.rect_emb_val t (ix2 r k) 1).trans ?_
    rw [a1, Nat.zero_mul, Nat.zero_add]; rfl

/-- What a point writes back is its block of the whole product. -/
theorem sim_flushed (t : Fin cfg2.N) :
    (dat2 V c).flushed 2 t = ((cfg2.win 2).blk t).view.read (Elt Ideal) (simOf (V c main_v49) (V c main_v54)) := by
  show (cfg2.win 2).cut (grid2.coords t) ((dat2 V c).after 2 t) = _
  rw [after2_2]
  unfold out2_2
  rw [View.canon_unit_zero origin2, View.ld_unit_zero origin2, View.ld_unit_zero origin2]
  funext y
  refine (k2_pay1_apply _ _ _).trans ?_
  show _ = simOf (V c main_v49) (V c main_v54) (((cfg2.win 2).blk t).view.emb y)
  unfold simOf
  obtain ⟨-, -, c0, c1⟩ := idx2 t
  refine Finset.sum_congr rfl fun k _ => congrArg₂ (· * ·) (sim_users V c t _ k _ ?_) (sim_items V c t _ k _ ?_)
  · refine (win2_2.rect_emb_val t y 0).trans ?_
    rw [c0]; rfl
  · refine (win2_2.rect_emb_val t y 1).trans ?_
    rw [c1]; rfl

/-- The blocks cover the result array. -/
theorem sim_cover (i : S2048x8192.Idx) :
    ∃ t : Fin cfg2.N, (cfg2.win 2).flush t = true ∧ i ∈ ((cfg2.win 2).blk t).view.set := by
  have h0 : (i 0 : Nat) < 2048 := (i 0).isLt
  have h1 : (i 1 : Nat) < 8192 := (i 1).isLt
  have hN : cfg2.N = 32 := N_2
  have ht : (i 0 : Nat) / 256 * 4 + (i 1 : Nat) / 2048 < cfg2.N := by omega
  refine ⟨⟨_, ht⟩, flush2_2 _, ?_⟩
  show i ∈ ((View.whole main_v55).slice (win2_2.rect ⟨_, ht⟩)).set
  rw [View.set_slice_whole, Rect.mem_set_unit]
  obtain ⟨-, -, c0, c1⟩ := idx2 ⟨_, ht⟩
  intro a
  match a with
  | ⟨0, _⟩ =>
    show win2_2.index _ 0 * 256 ≤ (i 0 : Nat) ∧ (i 0 : Nat) < win2_2.index _ 0 * 256 + 256
    rw [c0]; dsimp only; omega
  | ⟨1, _⟩ =>
    show win2_2.index _ 1 * 2048 ≤ (i 1 : Nat) ∧ (i 1 : Nat) < win2_2.index _ 1 * 2048 + 2048
    rw [c1]; dsimp only; omega

/-- The result array ends holding the whole product. -/
theorem sim_final : (dat2 V c).arrAt 2 cfg2.N = simOf (V c main_v49) (V c main_v54) :=
  (dat2 V c).arrAt_eq_of_cover 2 _ (fun t _ => sim_flushed V c t) sim_cover

end Cert.Proof.Ker

end
-- ==== Proof.TopkValue.lean ====
/-
  The top-k kernel's results: on a grid of 32 points, each writing 64 rows, the two result arrays end holding, for every row
  of the similarities, the first 32 elements of the row's stable descending sort and the columns they come from.
-/
module

public import proofs.«01_k».proof.Proof.TopkRow
public import proofs.«01_k».proof.Proof.SimValue

@[expose] public section

noncomputable section

namespace Cert.Proof.Ker

open Cert.KernelIdeal Cert.KernelIdeal.Gen Idealize.ShloMosaic Idealize.ShloMosaic.TcCoe Idealize.ShloMosaic.ValueIdx
open Idealize.ShloMosaic.Pipeline (Dat)
open Cert.Proof.Topk

/-- The column from which a row's stable descending sort takes its `k`-th element. -/
def sortPos (f : Fin 8192 → EReal) (k : Fin 32) : Fin 8192 := sortedFrom (before f) (k.castLE (by decide : 32 ≤ 8192))

/-- Row `r` of the similarities. -/
def wide (x : FVec Ideal S2048x8192 .f32) (r : Fin 2048) : Fin 8192 → EReal := fun c => x (ix2 r c)

/-- Every row's 32 greatest similarities, in order. -/
def topValOf (x : FVec Ideal S2048x8192 .f32) : FVec Ideal S2048x32 .f32 :=
  fun i => wide x (i 0) (sortPos (wide x (i 0)) (i 1))

/-- The columns they stand in. -/
def topIdxOf (x : FVec Ideal S2048x8192 .f32) : IVec S2048x32 32 :=
  fun i => BitVec.ofNat 32 (sortPos (wide x (i 0)) (i 1)).val

/-- The block numbers of the three windows at a point. -/
theorem idx3 : ∀ t : Fin cfg3.N,
    (win3_0.index t 0 = t.val ∧ win3_0.index t 1 = 0) ∧ (win3_1.index t 0 = t.val ∧ win3_1.index t 1 = 0)
      ∧ (win3_2.index t 0 = t.val ∧ win3_2.index t 1 = 0) :=
  (by decide +kernel : ∀ t : Fin grid3.N,
    (win3_0.index t 0 = t.val ∧ win3_0.index t 1 = 0) ∧ (win3_1.index t 0 = t.val ∧ win3_1.index t 1 = 0)
      ∧ (win3_2.index t 0 = t.val ∧ win3_2.index t 1 = 0))

variable (V : (c : Dev nD) → (b : Ref sig .tc) → Buf (Elt Ideal) ((c : Thread nD τ).loc b)) (c : Dev nD)

/-- A row of a point's block: the similarities' row at the block's offset. -/
theorem top_row (t : Fin cfg3.N) (r : Fin 64) (R : Fin 2048) (h : R.val = t.val * 64 + r.val) :
    row (iblk3 V c 0 t) r = wide (V c main_v55) R := by
  funext k
  obtain ⟨⟨a0, a1⟩, -⟩ := idx3 t
  refine congrArg (V c main_v55) (show ((cfg3.win 0).blk t).view.emb (ix2 r k) = ix2 R k from
    Shape.idx_ext₂ ?_ ?_)
  · refine (win3_0.rect_emb_val t (ix2 r k) 0).trans ?_
    rw [a0]; exact h.symm
  · refine (win3_0.rect_emb_val t (ix2 r k) 1).trans ?_
    rw [a1, Nat.zero_mul, Nat.zero_add]; rfl

variable (hx : ∀ r k, low < wide (V c main_v55) r k)
include hx

/-- What a point writes back to the first result is its block of the greatest similarities. -/
theorem top_flushed1 (t : Fin cfg3.N) :
    (dat3 V c).flushed 1 t = ((cfg3.win 1).blk t).view.read (Elt Ideal) (topValOf (V c main_v55)) := by
  show (cfg3.win 1).cut (grid3.coords t) ((dat3 V c).after 1 t) = _
  rw [after3_1]
  funext y
  obtain ⟨-, ⟨c0, c1⟩, -⟩ := idx3 t
  show out3_1 (iblk3 V c 0 t) ((cfg3.win 1).xinj (grid3.coords t) y) = topValOf (V c main_v55) (((cfg3.win 1).blk t).view.emb y)
  have hN : cfg3.N = 32 := N_3
  have ht := t.isLt
  have hy0 : (y 0 : Nat) < 64 := (y 0).isLt
  have hR : t.val * 64 + (y 0 : Nat) < 2048 := by omega
  have ey : (cfg3.win 1).xinj (grid3.coords t) y = ix2 (⟨(y 0 : Nat), hy0⟩ : Fin 64) (⟨(y 1 : Nat), (y 1).isLt⟩ : Fin 32) := Shape.idx_ext₂ rfl rfl
  have eG : ((cfg3.win 1).blk t).view.emb y = ix2 (⟨t.val * 64 + (y 0 : Nat), hR⟩ : Fin 2048) (⟨(y 1 : Nat), (y 1).isLt⟩ : Fin 32) := by
    refine Shape.idx_ext₂ ?_ ?_
    · refine (win3_1.rect_emb_val t y 0).trans ?_
      rw [c0]; rfl
    · refine (win3_1.rect_emb_val t y 1).trans ?_
      rw [c1, Nat.zero_mul, Nat.zero_add]
  have er := top_row V c t ⟨(y 0 : Nat), hy0⟩ ⟨t.val * 64 + (y 0 : Nat), hR⟩ rfl
  rw [ey, eG, out3_1_apply, best_sorted _ _ (fun k => by rw [er]; exact hx _ k), er]
  rfl

/-- What a point writes back to the second result is its block of their columns. -/
theorem top_flushed2 (t : Fin cfg3.N) :
    (dat3 V c).flushed 2 t = ((cfg3.win 2).blk t).view.read (Elt Ideal) (topIdxOf (V c main_v55)) := by
  show (cfg3.win 2).cut (grid3.coords t) ((dat3 V c).after 2 t) = _
  rw [after3_2]
  funext y
  obtain ⟨-, -, c0, c1⟩ := idx3 t
  show out3_2 (iblk3 V c 0 t) ((cfg3.win 2).xinj (grid3.coords t) y) = topIdxOf (V c main_v55) (((cfg3.win 2).blk t).view.emb y)
  have hN : cfg3.N = 32 := N_3
  have ht := t.isLt
  have hy0 : (y 0 : Nat) < 64 := (y 0).isLt
  have hR : t.val * 64 + (y 0 : Nat) < 2048 := by omega
  have ey : (cfg3.win 2).xinj (grid3.coords t) y = ix2 (⟨(y 0 : Nat), hy0⟩ : Fin 64) (⟨(y 1 : Nat), (y 1).isLt⟩ : Fin 32) := Shape.idx_ext₂ rfl rfl
  have eG : ((cfg3.win 2).blk t).view.emb y = ix2 (⟨t.val * 64 + (y 0 : Nat), hR⟩ : Fin 2048) (⟨(y 1 : Nat), (y 1).isLt⟩ : Fin 32) := by
    refine Shape.idx_ext₂ ?_ ?_
    · refine (win3_2.rect_emb_val t y 0).trans ?_
      rw [c0]; rfl
    · refine (win3_2.rect_emb_val t y 1).trans ?_
      rw [c1, Nat.zero_mul, Nat.zero_add]
  have er := top_row V c t ⟨(y 0 : Nat), hy0⟩ ⟨t.val * 64 + (y 0 : Nat), hR⟩ rfl
  rw [ey, eG, out3_2_apply, place_sorted _ _ (fun k => by rw [er]; exact hx _ k), er]
  rfl

omit hx

/-- The first result's blocks cover it. -/
theorem top_cover1 (i : S2048x32.Idx) : ∃ t : Fin cfg3.N, (cfg3.win 1).flush t = true ∧ i ∈ ((cfg3.win 1).blk t).view.set := by
  have h0 : (i 0 : Nat) < 2048 := (i 0).isLt
  have h1 : (i 1 : Nat) < 32 := (i 1).isLt
  have hN : cfg3.N = 32 := N_3
  have ht : (i 0 : Nat) / 64 < cfg3.N := by omega
  refine ⟨⟨_, ht⟩, flush3_1 _, ?_⟩
  show i ∈ ((View.whole main_v56_0).slice (win3_1.rect ⟨_, ht⟩)).set
  rw [View.set_slice_whole, Rect.mem_set_unit]
  obtain ⟨-, ⟨c0, c1⟩, -⟩ := idx3 ⟨_, ht⟩
  intro a
  match a with
  | ⟨0, _⟩ =>
    show win3_1.index _ 0 * 64 ≤ (i 0 : Nat) ∧ (i 0 : Nat) < win3_1.index _ 0 * 64 + 64
    rw [c0]; dsimp only; omega
  | ⟨1, _⟩ =>
    show win3_1.index _ 1 * 32 ≤ (i 1 : Nat) ∧ (i 1 : Nat) < win3_1.index _ 1 * 32 + 32
    rw [c1]; omega

/-- The second result's blocks cover it. -/
theorem top_cover2 (i : S2048x32.Idx) : ∃ t : Fin cfg3.N, (cfg3.win 2).flush t = true ∧ i ∈ ((cfg3.win 2).blk t).view.set := by
  have h0 : (i 0 : Nat) < 2048 := (i 0).isLt
  have h1 : (i 1 : Nat) < 32 := (i 1).isLt
  have hN : cfg3.N = 32 := N_3
  have ht : (i 0 : Nat) / 64 < cfg3.N := by omega
  refine ⟨⟨_, ht⟩, flush3_2 _, ?_⟩
  show i ∈ ((View.whole main_v56_1).slice (win3_2.rect ⟨_, ht⟩)).set
  rw [View.set_slice_whole, Rect.mem_set_unit]
  obtain ⟨-, -, c0, c1⟩ := idx3 ⟨_, ht⟩
  intro a
  match a with
  | ⟨0, _⟩ =>
    show win3_2.index _ 0 * 64 ≤ (i 0 : Nat) ∧ (i 0 : Nat) < win3_2.index _ 0 * 64 + 64
    rw [c0]; dsimp only; omega
  | ⟨1, _⟩ =>
    show win3_2.index _ 1 * 32 ≤ (i 1 : Nat) ∧ (i 1 : Nat) < win3_2.index _ 1 * 32 + 32
    rw [c1]; omega

include hx

/-- The first result ends holding every row's greatest similarities. -/
theorem top_final1 : (dat3 V c).arrAt 1 cfg3.N = topValOf (V c main_v55) :=
  (dat3 V c).arrAt_eq_of_cover 1 _ (fun t _ => top_flushed1 V c hx t) top_cover1

/-- The second result ends holding their columns. -/
theorem top_final2 : (dat3 V c).arrAt 2 cfg3.N = topIdxOf (V c main_v55) :=
  (dat3 V c).arrAt_eq_of_cover 2 _ (fun t _ => top_flushed2 V c hx t) top_cover2

end Cert.Proof.Ker

end
-- ==== Proof.UnitBound.lean ====
/-
  A bound on the similarities, over the extended reals and without any assumption on the inputs: a row divided by its norm plus
  a positive constant has entries between -1 and 1, so a product of two such rows of 512 entries is at least -512, far above the
  large negative number the top-k rounds write.
-/
module

public import proofs.«01_k».proof.Proof.RefTerms
public import Idealize.ShloMosaic.Lib.IdealHost
public import Idealize.ShloMosaic.Lib.ValueIdx
public import Idealize.ShloMosaic.Lib.Pipeline.Value

@[expose] public section

noncomputable section

namespace Cert.Proof.Ref

open Cert.ReferenceIdeal Cert.ReferenceIdeal.Gen Idealize.ShloMosaic Idealize.ShloMosaic.TcCoe Idealize.ShloMosaic.ValueIdx
open scoped BigOperators

/-- An extended real that is a real number between -1 and 1. -/
def Small (u : EReal) : Prop := ∃ a : ℝ, u = a ∧ |a| ≤ 1

/-- A square of an extended real is not negative. -/
theorem sq_nonneg (x : EReal) : 0 ≤ x * x := by
  induction x with
  | bot => simp
  | top => simp
  | coe a => rw [← EReal.coe_mul]; exact_mod_cast mul_self_nonneg a

/-- An entry of a row over the root of the row's sum of squares plus a positive constant lies between -1 and 1. -/
theorem small_div {ι : Type} [Fintype ι] (f : ι → EReal) (j : ι) (e : ℝ) (he : 0 < e) :
    Small (Ideal.div (f j) (Ideal.sqrt (∑ k, f k * f k) + (e : EReal))) := by
  have hle : f j * f j ≤ ∑ k, f k * f k :=
    Finset.single_le_sum (f := fun k => f k * f k) (fun k _ => sq_nonneg (f k)) (Finset.mem_univ j)
  generalize (∑ k, f k * f k) = S at hle
  have h0 : 0 ≤ S := (sq_nonneg _).trans hle
  induction S with
  | bot => exact absurd h0 (by simp)
  | top =>
    have h1 : Ideal.sqrt ⊤ + (e : EReal) = ⊤ := EReal.top_add_coe e
    refine ⟨0, ?_, by simp⟩
    rw [h1]
    unfold Ideal.div
    rw [if_neg EReal.top_ne_zero, EReal.inv_top, mul_zero]
    rfl
  | coe s =>
    have hs : 0 ≤ s := by exact_mod_cast h0
    generalize f j = x at hle
    have hx : ∃ a : ℝ, x = a := by
      induction x with
      | bot => simp at hle
      | top => simp at hle
      | coe a => exact ⟨a, rfl⟩
    obtain ⟨a, rfl⟩ := hx
    have ha : a * a ≤ s := by rw [← EReal.coe_mul] at hle; exact_mod_cast hle
    have hq : Ideal.sqrt (s : EReal) = ((Real.sqrt s : ℝ) : EReal) := by
      show (if s < 0 then ⊥ else ((Real.sqrt s : ℝ) : EReal)) = _
      rw [if_neg (not_lt.mpr hs)]
    have hr : |a| ≤ Real.sqrt s := Real.abs_le_sqrt (by rw [pow_two]; exact ha)
    have hp : 0 < Real.sqrt s + e := add_pos_of_nonneg_of_pos (Real.sqrt_nonneg s) he
    rw [hq, ← EReal.coe_add]
    unfold Ideal.div
    rw [if_neg (by exact_mod_cast hp.ne'), ← EReal.coe_inv, ← EReal.coe_mul]
    refine ⟨_, rfl, ?_⟩
    rw [abs_mul, abs_inv, abs_of_pos hp, ← div_eq_mul_inv, div_le_one hp]
    linarith

/-- A product of two rows of 512 such entries is at least -512. -/
theorem sum_ge (u v : Fin 512 → EReal) (hu : ∀ k, Small (u k)) (hv : ∀ k, Small (v k)) : ((-512 : ℝ) : EReal) ≤ ∑ k, u k * v k := by
  choose a ea ha using hu
  choose b eb hb using hv
  have h : ∑ k, u k * v k = ((∑ k, a k * b k : ℝ) : EReal) := by
    refine (Finset.sum_congr rfl fun k _ => by rw [ea, eb, ← EReal.coe_mul]).trans ?_
    exact (map_sum (⟨⟨((↑) : ℝ → EReal), EReal.coe_zero⟩, EReal.coe_add⟩ : ℝ →+ EReal) (fun k => a k * b k) Finset.univ).symm
  rw [h]
  refine EReal.coe_le_coe_iff.mpr ?_
  have h1 : ∀ k, -1 ≤ a k * b k := fun k => by
    have : |a k * b k| ≤ 1 := by
      rw [abs_mul]
      exact mul_le_one₀ (ha k) (abs_nonneg _) (hb k)
    exact (abs_le.mp this).1
  calc (-512 : ℝ) = ∑ _k : Fin 512, (-1 : ℝ) := by simp
    _ ≤ _ := Finset.sum_le_sum fun k _ => h1 k

/-- The constant added to a norm is positive. -/
theorem eps_pos : ∃ e : ℝ, 0 < e ∧ Ideal.ofBits .f32 0x322BCC77#32 = (e : EReal) := by
  refine ⟨(2 ^ 23 + 2870391 : ℕ) * (2 : ℝ) ^ ((100 : Int) - 127 - 23), by positivity, ?_⟩
  simp [Ideal.ofBits, Ideal.ieee, -EReal.coe_mul]

/-- A matrix of 512 columns with every row divided by its norm plus the constant has entries between -1 and 1. -/
theorem small_rows {n : ℕ} (x : FVec Ideal ⟨2, ![n, 512]⟩ .f32)
    (h : (⟨2, ![n, 512]⟩ : Shape).ReducesTo [1] ⟨1, ![n]⟩) (h' : (⟨2, ![n, 512]⟩ : Shape).Reduces [1] ⟨1, ![n]⟩)
    (hb : (⟨2, ![n, 1]⟩ : Shape).BroadcastsInDim ⟨2, ![n, 512]⟩ ![0, 1])
    (hc : (⟨1, ![n]⟩ : Shape).BroadcastsInDim ⟨2, ![n, 1]⟩ ![0]) (hs : (⟨0, ![]⟩ : Shape).BroadcastsInDim ⟨2, ![n, 1]⟩ ![])
    (hu : 0 < (⟨0, ![]⟩ : Shape).numel) (r : Fin n) (k : Fin 512) :
    Small (Host.divf x (broadcastInDim ⟨2, ![n, 512]⟩ ![0, 1] hb
      (addf (Host.sqrt (broadcastInDim ⟨2, ![n, 1]⟩ ![0] hc
          (Host.reduceAdd (mulf x x) (constant (F := Ideal) ⟨0, ![]⟩ .f32 0x00000000#32) h hu)))
        (broadcastInDim ⟨2, ![n, 1]⟩ ![] hs (constant (F := Ideal) ⟨0, ![]⟩ .f32 0x322BCC77#32)))) (ix2 r k)) := by
  obtain ⟨e, he, heq⟩ := eps_pos
  have hn : (if n = 1 then 0 else r.val) = r.val := by split_ifs <;> omega
  have hd := small_div (fun k : Fin 512 => x (ix2 r k)) k e he
  refine Eq.mp (congrArg Small ?_) hd
  rw [hostDivf_apply]
  refine congrArg₂ Ideal.div rfl ?_
  refine Eq.trans ?_ (broadcastInDim_apply (s := ⟨2, ![n, 1]⟩) _ hb _ (ix2 r k) (ix2 r 0) fun a => ?_).symm
  swap
  · fin_cases a
    · exact hn.symm
    · rfl
  rw [addf_apply]
  refine congrArg₂ (· + ·) (congrArg Ideal.sqrt ?_) ?_
  · refine Eq.trans ?_ (broadcastInDim_apply (s := ⟨1, ![n]⟩) _ hc _ (ix2 r 0) (ix1 r) fun a => ?_).symm
    swap
    · fin_cases a
      exact hn.symm
    rw [hostReduceAdd_apply]
    refine Eq.trans ?_ (Ideal.hostReduceAdd_single h h' _ _ (ix1 r)).symm
    rw [constant_apply]
    refine Eq.trans ?_ (congrArg (· + _) Ideal.ofBits_zero_f32.symm)
    rw [zero_add]
    refine Finset.sum_congr rfl fun c _ => ?_
    have hl : h'.lift (ix1 r) c = ix2 r c := Shape.idx_ext₂ rfl rfl
    exact congrArg (fun i => x i * x i) hl.symm
  · exact heq.symm.trans (broadcastInDim_scalar_apply hs (constant (F := Ideal) ⟨0, ![]⟩ .f32 0x322BCC77#32) (ix2 r 0)).symm

/-- The users' normalised entries lie between -1 and 1. -/
theorem unitUsers_small (h : Flt Ideal S10240x512) (r : Fin 2048) (k : Fin 512) : Small (unitUsers (F := Ideal) h (ix2 r k)) :=
  small_rows _ reducesTo_S2048x512_S2048_d1 (by decide) bcast_S2048x1_S2048x512_0_1 bcast_S2048_S2048x1_0 bcast_S_S2048x1 h_S_ r k

/-- The items' normalised entries lie between -1 and 1. -/
theorem unitItems_small (h : Flt Ideal S10240x512) (r : Fin 8192) (k : Fin 512) : Small (unitItems (F := Ideal) h (ix2 r k)) :=
  small_rows _ reducesTo_S8192x512_S8192_d1 (by decide) bcast_S8192x1_S8192x512_0_1 bcast_S8192_S8192x1_0 bcast_S_S8192x1 h_S_ r k

/-- The large negative number the rounds write is below -512. -/
theorem low_lt : Ideal.ofBits .f32 0xFF61B1E6#32 < ((-512 : ℝ) : EReal) := by
  have h : Ideal.ofBits .f32 0xFF61B1E6#32 = ((-((2 ^ 23 + 6402534 : ℕ) * (2 : ℝ) ^ ((254 : Int) - 127 - 23)) : ℝ) : EReal) := by
    simp [Ideal.ofBits, Ideal.ieee, -EReal.coe_mul]
  rw [h, EReal.coe_lt_coe_iff]
  norm_num

end Cert.Proof.Ref

end
-- ==== Proof.TailMath.lean ====
/-
  The last steps of the two programs agree: the reference works on two batches of 1024 users and puts the results one after the
  other, the kernel works on all 2048 users at once.
-/
module

public import proofs.«01_k».proof.Proof.TopkValue
public import proofs.«01_k».proof.Proof.UnitBound
public import proofs.«01_k».proof.Proof.KernelHost
public import Idealize.ShloMosaic.Lib.StackMember

@[expose] public section

noncomputable section

namespace Cert.Proof.Tail

open Cert.ReferenceIdeal Cert.ReferenceIdeal.Gen Idealize.ShloMosaic Idealize.ShloMosaic.TcCoe Idealize.ShloMosaic.ValueIdx
open Cert.Proof.Topk
open Cert.Proof.Ker (simOf sortPos wide topValOf topIdxOf allRows flat low)
open Cert.Proof.Ref

/-- A batch's similarity of a user and an item: their rows' product. -/
theorem batchSim_apply (u : FVec Ideal S1024x512 .f32) (it : FVec Ideal S8192x512 .f32) (r : Fin 1024) (c : Fin 8192) :
    batchSim (F := Ideal) u it (ix2 r c) = ∑ k : Fin 512, u (ix2 r k) * it (ix2 c k) := by
  unfold batchSim
  refine (StackMember.dotGeneral_plain_apply (m := 1024) (k := 512) (n := 8192) none u _ r c).trans ?_
  refine Finset.sum_congr rfl fun k _ => congrArg (u (ix2 r k) * ·) ?_
  exact transpose_apply _ _ _ (ix2 k c) (ix2 c k) fun b => by fin_cases b <;> rfl

/-- The first batch's row is the whole's. -/
theorem batch0_row (u : FVec Ideal S2048x512 .f32) (it : FVec Ideal S8192x512 .f32) (r : Fin 1024) (R : Fin 2048) (h : R.val = r.val) :
    (fun c => batchSim (F := Ideal) (users0 u) it (ix2 r c)) = wide (simOf u it) R := by
  funext c
  refine (batchSim_apply _ it r c).trans ?_
  show _ = ∑ k : Fin 512, u (ix2 R k) * it (ix2 c k)
  refine Finset.sum_congr rfl fun k _ => congrArg (· * it (ix2 c k)) ?_
  unfold users0
  exact extractStridedSlice_apply _ u _ (ix2 r k) (ix2 R k) fun a => by fin_cases a <;> simp [h]

/-- The second batch's row is the whole's, 1024 rows further on. -/
theorem batch1_row (u : FVec Ideal S2048x512 .f32) (it : FVec Ideal S8192x512 .f32) (r : Fin 1024) (R : Fin 2048)
    (h : R.val = 1024 + r.val) : (fun c => batchSim (F := Ideal) (users1 u) it (ix2 r c)) = wide (simOf u it) R := by
  funext c
  refine (batchSim_apply _ it r c).trans ?_
  show _ = ∑ k : Fin 512, u (ix2 R k) * it (ix2 c k)
  refine Finset.sum_congr rfl fun k _ => congrArg (· * it (ix2 c k)) ?_
  unfold users1
  exact extractStridedSlice_apply _ u _ (ix2 r k) (ix2 R k) fun a => by fin_cases a <;> simp [h]

/-- The first columns of a stable sort of every row by `gt`: the values and their positions, at an index. -/
theorem topK_apply {n m K : ℕ} (hK : K ≤ m) (gt : EReal → EReal → BitVec 1) (s : (⟨2, ![n, m]⟩ : Shape).Idx → EReal)
    (h : (⟨2, ![n, m]⟩ : Shape).Slices (fun _ => 0) ⟨2, ![n, K]⟩) (r : Fin n) (k : Fin K) :
    (Host.topK ⟨2, ![n, K]⟩ 1 gt s h).1 (ix2 r k)
        = s (ix2 r (sortedFrom (fun a b : Fin m => gt (s (ix2 r a)) (s (ix2 r b)) == 1#1) (k.castLE hK)))
      ∧ (Host.topK ⟨2, ![n, K]⟩ 1 gt s h).2 (ix2 r k)
        = BitVec.ofNat 32 (sortedFrom (fun a b : Fin m => gt (s (ix2 r a)) (s (ix2 r b)) == 1#1) (k.castLE hK)).val := by
  have hi : ∀ c b : Fin m, (show (⟨2, ![n, m]⟩ : Shape).Idx from ix2 r c).along 1 b = ix2 r b := fun c b => Shape.idx_ext₂ rfl rfl
  have ho : (fun a b : Fin m => gt (s ((show (⟨2, ![n, m]⟩ : Shape).Idx from ix2 r (k.castLE hK)).along 1 a))
      (s ((show (⟨2, ![n, m]⟩ : Shape).Idx from ix2 r (k.castLE hK)).along 1 b)) == 1#1)
      = fun a b : Fin m => gt (s (ix2 r a)) (s (ix2 r b)) == 1#1 := by
    funext a b
    rw [hi, hi]
  have hs := (hi (k.castLE hK) _).trans (congrArg (fun o => (ix2 r (sortedFrom o (k.castLE hK)) : (⟨2, ![n, m]⟩ : Shape).Idx)) ho)
  have hl : ∀ {α : Type} (x : (⟨2, ![n, m]⟩ : Shape).Idx → α),
      extractStridedSlice ⟨2, ![n, K]⟩ (fun _ => 0) x h (ix2 r k) = x (ix2 r (k.castLE hK)) := fun x =>
    extractStridedSlice_apply (fun _ => 0) x h (ix2 r k) (ix2 r (k.castLE hK)) fun a => by fin_cases a <;> simp
  constructor
  · dsimp only [Host.topK]
    rw [hl]
    exact congrArg s hs
  · dsimp only [Host.topK]
    rw [hl]
    exact congrArg (fun i : (⟨2, ![n, m]⟩ : Shape).Idx => BitVec.ofNat 32 (i 1).val) hs

/-- The comparison by which the reference sorts a row. -/
theorem order_eq (f : Fin 8192 → EReal) :
    (fun a b : Fin 8192 => FloatOps.cmpfTotal (F := Ideal) (φ := .f32) .gt (f a) (f b) == 1#1) = before f := by
  funext a b
  rw [Ideal.cmpfTotal_def]
  show (BitVec.ofBool (decide (f b < f a)) == 1#1) = decide (f b < f a)
  by_cases h : f b < f a <;> simp [h]

/-- The reference's greatest similarities of a row, at an index. -/
theorem topK_val (s : FVec Ideal S1024x8192 .f32) (r : Fin 1024) (k : Fin 32) (f : Fin 8192 → EReal) (hf : (fun c => s (ix2 r c)) = f) :
    (Host.topK S1024x32 1 (FloatOps.cmpfTotal (F := Ideal) (φ := .f32) .gt) s sliceFits_S1024x8192_S1024x32).1 (ix2 r k)
      = f (sortPos f k) := by
  subst hf
  exact (topK_apply (by decide) _ s sliceFits_S1024x8192_S1024x32 r k).1.trans
    (congrArg (fun o => s (ix2 r (sortedFrom o (k.castLE (by decide : 32 ≤ 8192))))) (order_eq fun c => s (ix2 r c)))

/-- The columns they stand in, at an index. -/
theorem topK_idx (s : FVec Ideal S1024x8192 .f32) (r : Fin 1024) (k : Fin 32) (f : Fin 8192 → EReal) (hf : (fun c => s (ix2 r c)) = f) :
    (Host.topK S1024x32 1 (FloatOps.cmpfTotal (F := Ideal) (φ := .f32) .gt) s sliceFits_S1024x8192_S1024x32).2 (ix2 r k)
      = BitVec.ofNat 32 (sortPos f k).val := by
  subst hf
  exact (topK_apply (by decide) _ s sliceFits_S1024x8192_S1024x32 r k).2.trans
    (congrArg (fun o => BitVec.ofNat 32 (sortedFrom o (k.castLE (by decide : 32 ≤ 8192))).val) (order_eq fun c => s (ix2 r c)))

/-- Two flattened halves, one after the other, are the flattened whole. -/
theorem two_flat {e : EltTy} (a b : (⟨S1024x32, e⟩ : BufTy).Contents (Elt Ideal)) (x : (⟨Cert.KernelIdeal.S2048x32, e⟩ : BufTy).Contents (Elt Ideal))
    (ha : ∀ (r : Fin 1024) (R : Fin 2048) (k : Fin 32), R.val = r.val → a (ix2 r k) = x (ix2 R k))
    (hb : ∀ (r : Fin 1024) (R : Fin 2048) (k : Fin 32), R.val = 1024 + r.val → b (ix2 r k) = x (ix2 R k)) :
    two (F := Ideal) (shapeCast S32768 a shapeCasts_S1024x32_S32768) (shapeCast S32768 b shapeCasts_S1024x32_S32768) = flat (F := Ideal) x := by
  funext i
  obtain ⟨p, rfl⟩ : ∃ p : Fin 65536, i = ix1 p := ⟨i 0, eq_ix1 i⟩
  have hp := p.isLt
  have hR : p.val / 32 < 2048 := by omega
  have hk : p.val % 32 < 32 := by omega
  have hx : flat (F := Ideal) x (ix1 p) = x (ix2 ⟨p.val / 32, hR⟩ ⟨p.val % 32, hk⟩) :=
    shapeCast_apply _ _ _ _ (by rw [Shape.rowMajor_val_two, Shape.rowMajor_val_one]; show p.val / 32 * 32 + p.val % 32 = p.val; omega)
  rw [hx]
  unfold two
  by_cases h : p.val < 32768
  · refine (concatenate_pair_apply_left (t := S65536) (s₁ := S32768) (s₂ := S32768) 0 _ _ _ (ix1 p) rfl (ix1 ⟨p.val, h⟩) fun b => by fin_cases b; rfl).trans ?_
    have hr : p.val / 32 < 1024 := by omega
    refine (shapeCast_apply _ _ _ (ix2 ⟨p.val / 32, hr⟩ ⟨p.val % 32, hk⟩) ?_).trans (ha _ _ _ rfl)
    rw [Shape.rowMajor_val_two, Shape.rowMajor_val_one]
    show p.val / 32 * 32 + p.val % 32 = p.val
    omega
  · have h' : p.val - 32768 < 32768 := by omega
    refine (concatenate_pair_apply_right (t := S65536) (s₁ := S32768) (s₂ := S32768) 0 _ _ _ (ix1 p) rfl rfl (ix1 ⟨p.val - 32768, h'⟩) (fun b hb => ?_) ?_).trans ?_
    · fin_cases b; exact absurd rfl hb
    · show p.val - 32768 + 32768 = p.val
      omega
    have hr : p.val / 32 - 1024 < 1024 := by omega
    refine (shapeCast_apply _ _ _ (ix2 ⟨p.val / 32 - 1024, hr⟩ ⟨p.val % 32, hk⟩) ?_).trans (hb _ _ _ ?_)
    · rw [Shape.rowMajor_val_two, Shape.rowMajor_val_one]
      show (p.val / 32 - 1024) * 32 + p.val % 32 = p.val - 32768
      omega
    · show p.val / 32 = 1024 + (p.val / 32 - 1024)
      omega

/-- The kernel's row numbers are the reference's. -/
theorem rows_eq : rows (F := Ideal) = allRows (F := Ideal) := by
  refine two_flat (e := .i32) _ _ _ (fun r R k h => ?_) fun r R k h => ?_
  · refine (broadcastInDim_apply _ _ _ (ix2 r k) (ix1 r) fun a => by fin_cases a; rfl).trans
      (Eq.trans ?_ (broadcastInDim_apply _ _ _ (ix2 R k) (ix1 R) fun a => by fin_cases a; rfl).symm)
    show BitVec.ofNat 32 r.val = BitVec.ofNat 32 R.val
    rw [h]
  · refine (broadcastInDim_apply _ _ _ (ix2 r k) (ix1 r) fun a => by fin_cases a; rfl).trans
      (Eq.trans ?_ (broadcastInDim_apply _ _ _ (ix2 R k) (ix1 R) fun a => by fin_cases a; rfl).symm)
    show 1024#32 + BitVec.ofNat 32 r.val = BitVec.ofNat 32 R.val
    rw [h, BitVec.ofNat_add]

variable (u : FVec Ideal S2048x512 .f32) (it : FVec Ideal S8192x512 .f32)

/-- The kernel's greatest similarities, flattened, are the reference's. -/
theorem weights_eq : weights (F := Ideal) u it = flat (F := Ideal) (e := .f32) (topValOf (simOf u it)) := by
  have ht : ∀ (R : Fin 2048) (k : Fin 32),
      wide (simOf u it) R (sortPos (wide (simOf u it) R) k) = topValOf (simOf u it) (ix2 R k) := fun _ _ => rfl
  exact two_flat (e := .f32) _ _ _ (fun r R k h => (topK_val _ r k _ (batch0_row u it r R h)).trans (ht R k))
    fun r R k h => (topK_val _ r k _ (batch1_row u it r R h)).trans (ht R k)

/-- The nodes they belong to are the reference's. -/
theorem cols_eq : cols (F := Ideal) u it = nodes (F := Ideal) (flat (F := Ideal) (e := .i32) (topIdxOf (simOf u it))) :=
  congrArg (nodes (F := Ideal)) (two_flat (e := .i32) _ _ _ (fun r R k h => topK_idx _ r k _ (batch0_row u it r R h))
    fun r R k h => topK_idx _ r k _ (batch1_row u it r R h))

/-- Every similarity of normalised rows exceeds the large negative number the rounds write. -/
theorem sim_above (h : FVec Ideal S10240x512 .f32) (r : Fin 2048) (k : Fin 8192) :
    low < wide (simOf (unitUsers (F := Ideal) h) (unitItems (F := Ideal) h)) r k :=
  lt_of_lt_of_le (show low < ((-512 : ℝ) : EReal) from low_lt)
    (sum_ge (fun c => unitUsers (F := Ideal) h (ix2 r c)) (fun c => unitItems (F := Ideal) h (ix2 k c)) (unitUsers_small h r)
      (unitItems_small h k))

end Cert.Proof.Tail

end
-- ==== Proof.KernelValue.lean ====
/-
  The kernel program's three results as the reference's functions of the arguments: the four kernels' values and the host
  operations between them, followed from the start of a run to its end.
-/
module

public import proofs.«01_k».proof.Proof.KernelRun
public import proofs.«01_k».proof.Proof.LayerValue
public import proofs.«01_k».proof.Proof.TailMath

@[expose] public section

noncomputable section

namespace Cert.Proof.Ker

open Cert.KernelIdeal Cert.KernelIdeal.Gen Idealize.ShloMosaic Idealize.ShloMosaic.TcCoe Idealize.SL.Sem
open Cert.Proof.Ref (Flt Int32 hidden layer clampZero segSum rowIdx colIdx unitUsers unitItems rows cols weights nodes twice)

variable (m : (ℓ : Loc nD τ sig) → Buf (Elt Ideal) ℓ) (ρ : Dev nD → PrngReg) (c : Dev nD)

/-- The second layer's output, of the kernel program's arguments. -/
def hiddenOf : Flt Ideal S10240x512 :=
  hidden (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The first dense-layer kernel leaves the first layer's output. -/
theorem V2_v23 : V2 m ρ c main_v23
    = clampZero (layer (agg0 m c) (m ((c.tc : Thread nD τ).loc main_arg4)) (m ((c.tc : Thread nD τ).loc main_arg5))) := by
  refine (W2_arr m ρ c 3).trans ((lin0_final (V1 m ρ) c _ _ (V1_v21 m ρ c) (V1_v22 m ρ c)).trans ?_)
  rw [V1_arg4]

/-- The second dense-layer kernel leaves the second layer's output. -/
theorem V4_v42 : V4 m ρ c main_v42 = hiddenOf m c := by
  refine (W4_arr m ρ c 3).trans ((lin1_final (V3 m ρ) c _ _ (V3_v40 m ρ c) (V3_v41 m ρ c)).trans ?_)
  rw [V3_arg6, V2_v23]
  rfl

/-- The normalised users of the second layer's output. -/
abbrev uu : FVec Ideal S2048x512 .f32 := unitUsers (hiddenOf m c)
/-- The normalised items of the second layer's output. -/
abbrev ii : FVec Ideal S8192x512 .f32 := unitItems (hiddenOf m c)

/-- The product kernel leaves the similarities of the normalised halves. -/
theorem V10_v55 : V10 m ρ c main_v55 = simOf (uu m c) (ii m c) := by
  refine (W10_arr m ρ c 2).trans ((sim_final (V9 m ρ) c).trans ?_)
  rw [V9_v49, V9_v54, V4_v42]

/-- Every similarity exceeds the large negative number the top-k rounds write. -/
theorem V10_above (r : Fin 2048) (k : Fin 8192) : low < wide (V10 m ρ c main_v55) r k := by
  rw [V10_v55]
  exact Tail.sim_above (hiddenOf m c) r k

/-- The top-k kernel leaves the reference's weights, before flattening. -/
theorem V11_v56_0 : W11 m ρ c (Proc.devRef .tc main_v56_0) = topValOf (simOf (uu m c) (ii m c)) := by
  refine (W11_arr m ρ c 1).trans ((top_final1 (V10 m ρ) c (V10_above m ρ c)).trans ?_)
  rw [V10_v55]

/-- The top-k kernel leaves the reference's items, before flattening. -/
theorem V11_v56_1 : W11 m ρ c (Proc.devRef .tc main_v56_1) = topIdxOf (simOf (uu m c) (ii m c)) := by
  refine (W11_arr m ρ c 2).trans ((top_final2 (V10 m ρ) c (V10_above m ρ c)).trans ?_)
  rw [V10_v55]

/-- The first result: the rows, then the columns. -/
theorem result0 : W12 m ρ c (Proc.devRef .tc main_v64) = twice (F := Ideal) (e := .i32) rows (cols (uu m c) (ii m c)) := by
  refine (host4_v64 (W11 m ρ c)).trans ?_
  rw [V11_v56_1, Tail.rows_eq, Tail.cols_eq]

/-- The second result: the columns, then the rows. -/
theorem result1 : W12 m ρ c (Proc.devRef .tc main_v65) = twice (F := Ideal) (e := .i32) (cols (uu m c) (ii m c)) rows := by
  refine (host4_v65 (W11 m ρ c)).trans ?_
  rw [V11_v56_1, Tail.rows_eq, Tail.cols_eq]

/-- The third result: the weights, twice. -/
theorem result2 : W12 m ρ c (Proc.devRef .tc main_v66)
    = twice (F := Ideal) (e := .f32) (weights (uu m c) (ii m c)) (weights (uu m c) (ii m c)) := by
  refine (host4_v66 (W11 m ρ c)).trans ?_
  rw [V11_v56_0, Tail.weights_eq]

end Cert.Proof.Ker

end
-- ==== Proof.lean ====
/-
  The five claims: the kernel program runs, at machine words and at the extended reals, and so does the reference, each leaving
  its arguments unchanged and every semaphore at zero; the idealization rewrote nothing; and at the extended reals the kernel
  program's three results are the reference's.
-/
module

public import proofs.«01_k».proof.Defs
public import proofs.«01_k».proof.Proof.Gen.Kernel.Frame
public import proofs.«01_k».proof.Proof.RefRun
public import proofs.«01_k».proof.Proof.KernelValue
public import Idealize.ShloMosaic.Lib.Quiescent

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The reference runs, leaves its arguments unchanged and every semaphore at zero. -/
theorem reference_frame : quiescent_ReferenceIdeal := fun m ρ _ =>
  (θ_run _ _ _).mono (fun r h => ⟨fun c => (h c).2.2.2, sem_eq_zero_of_no_sems (by decide) r.2⟩) (Ref.run m ρ)

/-- From equal arguments the second layer's output is the same in both programs. -/
theorem hidden_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)) : Ref.hiddenOf m' c = Ker.hiddenOf m c := by
  obtain ⟨h0, h1, h2, h3, h4, h5, h6, h7⟩ := h
  unfold Ref.hiddenOf Ker.hiddenOf
  rw [h0, h1, h2, h3, h4, h5, h6, h7]

/-- The kernel program's results are the reference's, at the extended reals. -/
theorem results_equal : algebraic_KernelIdeal_ReferenceIdeal := by
  intro m ρ m' ρ' _ hm
  refine ⟨fun c => Ref.twice (F := Ideal) (e := .i32) Ref.rows (Ref.cols (Ker.uu m c) (Ker.ii m c)),
    fun c => Ref.twice (F := Ideal) (e := .i32) (Ref.cols (Ker.uu m c) (Ker.ii m c)) Ref.rows,
    fun c => Ref.twice (F := Ideal) (e := .f32) (Ref.weights (Ker.uu m c) (Ker.ii m c)) (Ref.weights (Ker.uu m c) (Ker.ii m c)), ?_, ?_⟩
  · refine (θ_run _ _ _).mono (fun r h c => ?_) (Ker.run m ρ)
    obtain ⟨r0, r1, r2, ra⟩ := h c
    exact ⟨r0.trans (Ker.result0 m ρ c), r1.trans (Ker.result1 m ρ c), r2.trans (Ker.result2 m ρ c), ra⟩
  · refine (θ_run _ _ _).mono (fun r h c => ?_) (Ref.run m' ρ')
    obtain ⟨r0, r1, r2, ra⟩ := h c
    rw [hidden_eq m m' c (hm c)] at r0 r1 r2
    exact ⟨r0, r1, r2, ra⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, results_equal⟩

end Cert.Proof

end
